-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x16x4096x128 : Shape := ⟨4, ![2, 16, 4096, 128]⟩
abbrev S64 : Shape := ⟨1, ![64]⟩
abbrev S_ : Shape := ⟨0, ![]⟩
abbrev S8x128 : Shape := ⟨2, ![8, 128]⟩
abbrev S64x1 : Shape := ⟨2, ![64, 1]⟩
abbrev S64x2 : Shape := ⟨2, ![64, 2]⟩
abbrev S1x1x4096x128 : Shape := ⟨4, ![1, 1, 4096, 128]⟩
abbrev S1x128 : Shape := ⟨2, ![1, 128]⟩
abbrev S1x1x128x128 : Shape := ⟨4, ![1, 1, 128, 128]⟩
abbrev S128x128 : Shape := ⟨2, ![128, 128]⟩
abbrev S16x8x128 : Shape := ⟨3, ![16, 8, 128]⟩
abbrev S1x8x1 : Shape := ⟨3, ![1, 8, 1]⟩
abbrev S8x2x8x128 : Shape := ⟨4, ![8, 2, 8, 128]⟩
abbrev S8x1x8x128 : Shape := ⟨4, ![8, 1, 8, 128]⟩
abbrev S8x8x128 : Shape := ⟨3, ![8, 8, 128]⟩
abbrev S4x2x16x128 : Shape := ⟨4, ![4, 2, 16, 128]⟩
abbrev S4x1x16x128 : Shape := ⟨4, ![4, 1, 16, 128]⟩
abbrev S4x16x128 : Shape := ⟨3, ![4, 16, 128]⟩
abbrev S4x8x128 : Shape := ⟨3, ![4, 8, 128]⟩
abbrev S2x2x32x128 : Shape := ⟨4, ![2, 2, 32, 128]⟩
abbrev S2x1x32x128 : Shape := ⟨4, ![2, 1, 32, 128]⟩
abbrev S2x32x128 : Shape := ⟨3, ![2, 32, 128]⟩
abbrev S2x16x128 : Shape := ⟨3, ![2, 16, 128]⟩
abbrev S1x2x64x128 : Shape := ⟨4, ![1, 2, 64, 128]⟩
abbrev S1x1x64x128 : Shape := ⟨4, ![1, 1, 64, 128]⟩
abbrev S1x64x128 : Shape := ⟨3, ![1, 64, 128]⟩
abbrev S1x32x128 : Shape := ⟨3, ![1, 32, 128]⟩
abbrev S1x128x128 : Shape := ⟨3, ![1, 128, 128]⟩
abbrev S2x64x128 : Shape := ⟨3, ![2, 64, 128]⟩
abbrev S4x32x128 : Shape := ⟨3, ![4, 32, 128]⟩
abbrev S8x16x128 : Shape := ⟨3, ![8, 16, 128]⟩

abbrev nBuf : Space → Nat
  | .hbm => 23
  | .vmem => 5
  | .smem => 0
  | _ => 0

abbrev bufTy : (tb : Table) → Fin (tcTables nBuf tb) → BufTy
  | .hbm, ⟨0, _⟩ => ⟨S2x16x4096x128, .f32⟩
  | .hbm, ⟨1, _⟩ => ⟨S2x16x4096x128, .f32⟩
  | .hbm, ⟨2, _⟩ => ⟨S2x16x4096x128, .f32⟩
  | .hbm, ⟨3, _⟩ => ⟨S64, .i32⟩
  | .hbm, ⟨4, _⟩ => ⟨S_, .i32⟩
  | .hbm, ⟨5, _⟩ => ⟨S8x128, .i32⟩
  | .hbm, ⟨6, _⟩ => ⟨S_, .i32⟩
  | .hbm, ⟨7, _⟩ => ⟨S64, .i32⟩
  | .hbm, ⟨8, _⟩ => ⟨S64, .i1⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S64x1, .i32⟩
  | .hbm, ⟨17, _⟩ => ⟨S64x1, .i32⟩
  | .hbm, ⟨18, _⟩ => ⟨S64x2, .i32⟩
  | .hbm, ⟨19, _⟩ => ⟨S_, .i32⟩
  | .hbm, ⟨20, _⟩ => ⟨S64, .i32⟩
  | .hbm, ⟨21, _⟩ => ⟨S8x128, .i32⟩
  | .hbm, ⟨22, _⟩ => ⟨S2x16x4096x128, .f32⟩
  | .local _ .vmem, ⟨0, _⟩ => ⟨S1x1x4096x128, .f32⟩
  | .local _ .vmem, ⟨1, _⟩ => ⟨S1x1x4096x128, .f32⟩
  | .local _ .vmem, ⟨2, _⟩ => ⟨S8x128, .i32⟩
  | .local _ .vmem, ⟨3, _⟩ => ⟨S1x1x4096x128, .f32⟩
  | .local _ .vmem, ⟨4, _⟩ => ⟨S1x1x4096x128, .f32⟩
  | _, _ => ⟨S2x16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_c_0 : Ref sig .tc := ⟨.hbm, 6, rfl⟩
abbrev main_call0_v1 : Ref sig .tc := ⟨.hbm, 7, rfl⟩
abbrev main_call0_v2 : Ref sig .tc := ⟨.hbm, 8, rfl⟩
abbrev main_call0_c_1 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_c_3 : Ref sig .tc := ⟨.hbm, 19, rfl⟩
abbrev main_call0_v11 : Ref sig .tc := ⟨.hbm, 20, rfl⟩
abbrev main_call0_v12 : Ref sig .tc := ⟨.hbm, 21, rfl⟩
abbrev main_v0_0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c4_i32 : BitVec 32 := 4#32
  let v7 : BitVec 32 := Scalar.addi c0_i32_2 c4_i32
  let c1_i32 : BitVec 32 := 1#32
  ⟨c0_i32_2, v7, c1_i32⟩
def k0_off1 (k0_t1 : Fin k0_t1_loop.trips) : Fin 4 → Nat :=
  let c0_1222 : Index := 0#32
  let c0_1223 : Index := 0#32
  let c4_i32_1220 : BitVec 32 := 4#32
  let c0_i32_2 : BitVec 32 := 0#32
  let c1_i32 : BitVec 32 := 1#32
  let arg5 : BitVec 32 := Scf.iv c0_i32_2 c1_i32 k0_t1
  let v6135 : BitVec 32 := Scalar.muli c4_i32_1220 arg5
  let c256_i32_1221 : BitVec 32 := 256#32
  let v6136 : BitVec 32 := Scalar.muli v6135 c256_i32_1221
  let v6137 : Index := Scalar.indexCast v6136
  let c0_1224 : Index := 0#32
  ![0, 0, v6137.toNat, 0]
def k0_off2 (k0_t1 : Fin k0_t1_loop.trips) : Fin 4 → Nat :=
  let c0_1226 : Index := 0#32
  let c0_1227 : Index := 0#32
  let c4_i32_1220 : BitVec 32 := 4#32
  let c0_i32_2 : BitVec 32 := 0#32
  let c1_i32 : BitVec 32 := 1#32
  let arg5 : BitVec 32 := Scf.iv c0_i32_2 c1_i32 k0_t1
  let v6135 : BitVec 32 := Scalar.muli c4_i32_1220 arg5
  let c256_i32_1221 : BitVec 32 := 256#32
  let v6136 : BitVec 32 := Scalar.muli v6135 c256_i32_1221
  let c128_i32_1225 : BitVec 32 := 128#32
  let v6142 : BitVec 32 := Scalar.addi v6136 c128_i32_1225
  let v6143 : Index := Scalar.indexCast v6142
  let c0_1228 : Index := 0#32
  ![0, 0, v6143.toNat, 0]
def k0_off3 (k0_t1 : Fin k0_t1_loop.trips) : Fin 4 → Nat :=
  let c0_1495 : Index := 0#32
  let c0_1496 : Index := 0#32
  let c4_i32_1492 : BitVec 32 := 4#32
  let c0_i32_2 : BitVec 32 := 0#32
  let c1_i32 : BitVec 32 := 1#32
  let arg5 : BitVec 32 := Scf.iv c0_i32_2 c1_i32 k0_t1
  let v7715 : BitVec 32 := Scalar.muli c4_i32_1492 arg5
  let c2_i32_1493 : BitVec 32 := 2#32
  let v7716 : BitVec 32 := Scalar.addi v7715 c2_i32_1493
  let c256_i32_1494 : BitVec 32 := 256#32
  let v7717 : BitVec 32 := Scalar.muli v7716 c256_i32_1494
  let v7718 : Index := Scalar.indexCast v7717
  let c0_1497 : Index := 0#32
  ![0, 0, v7718.toNat, 0]
def k0_off4 (k0_t1 : Fin k0_t1_loop.trips) : Fin 4 → Nat :=
  let c0_1499 : Index := 0#32
  let c0_1500 : Index := 0#32
  let c4_i32_1492 : BitVec 32 := 4#32
  let c0_i32_2 : BitVec 32 := 0#32
  let c1_i32 : BitVec 32 := 1#32
  let arg5 : BitVec 32 := Scf.iv c0_i32_2 c1_i32 k0_t1
  let v7715 : BitVec 32 := Scalar.muli c4_i32_1492 arg5
  let c2_i32_1493 : BitVec 32 := 2#32
  let v7716 : BitVec 32 := Scalar.addi v7715 c2_i32_1493
  let c256_i32_1494 : BitVec 32 := 256#32
  let v7717 : BitVec 32 := Scalar.muli v7716 c256_i32_1494
  let c128_i32_1498 : BitVec 32 := 128#32
  let v7723 : BitVec 32 := Scalar.addi v7717 c128_i32_1498
  let v7724 : Index := Scalar.indexCast v7723
  let c0_1501 : Index := 0#32
  ![0, 0, v7724.toNat, 0]
@[reducible] def k0_t2_loop : Scf.Loop 32 :=
  let c0_i32_4 : BitVec 32 := 0#32
  let c4_i32_5 : BitVec 32 := 4#32
  let v8 : BitVec 32 := Scalar.addi c0_i32_4 c4_i32_5
  let c1_i32_6 : BitVec 32 := 1#32
  ⟨c0_i32_4, v8, c1_i32_6⟩
def k0_off5 (k0_t2 : Fin k0_t2_loop.trips) (c1_i32_1221 : BitVec 32) : Fin 4 → Nat :=
  let c0_1223 : Index := 0#32
  let c0_1224 : Index := 0#32
  let c4_i32_1220 : BitVec 32 := 4#32
  let c0_i32_4 : BitVec 32 := 0#32
  let c1_i32_6 : BitVec 32 := 1#32
  let arg5 : BitVec 32 := Scf.iv c0_i32_4 c1_i32_6 k0_t2
  let v6135 : BitVec 32 := Scalar.muli c4_i32_1220 arg5
  let v6136 : BitVec 32 := Scalar.addi v6135 c1_i32_1221
  let c256_i32_1222 : BitVec 32 := 256#32
  let v6137 : BitVec 32 := Scalar.muli v6136 c256_i32_1222
  let v6138 : Index := Scalar.indexCast v6137
  let c0_1225 : Index := 0#32
  ![0, 0, v6138.toNat, 0]
def k0_off6 (k0_t2 : Fin k0_t2_loop.trips) (c1_i32_1221 : BitVec 32) : Fin 4 → Nat :=
  let c0_1227 : Index := 0#32
  let c0_1228 : Index := 0#32
  let c4_i32_1220 : BitVec 32 := 4#32
  let c0_i32_4 : BitVec 32 := 0#32
  let c1_i32_6 : BitVec 32 := 1#32
  let arg5 : BitVec 32 := Scf.iv c0_i32_4 c1_i32_6 k0_t2
  let v6135 : BitVec 32 := Scalar.muli c4_i32_1220 arg5
  let v6136 : BitVec 32 := Scalar.addi v6135 c1_i32_1221
  let c256_i32_1222 : BitVec 32 := 256#32
  let v6137 : BitVec 32 := Scalar.muli v6136 c256_i32_1222
  let c128_i32_1226 : BitVec 32 := 128#32
  let v6143 : BitVec 32 := Scalar.addi v6137 c128_i32_1226
  let v6144 : Index := Scalar.indexCast v6143
  let c0_1229 : Index := 0#32
  ![0, 0, v6144.toNat, 0]
@[reducible] def k0_t3_loop : Scf.Loop 32 :=
  let c0_i32_8 : BitVec 32 := 0#32
  let c4_i32_9 : BitVec 32 := 4#32
  let v9 : BitVec 32 := Scalar.addi c0_i32_8 c4_i32_9
  let c1_i32_10 : BitVec 32 := 1#32
  ⟨c0_i32_8, v9, c1_i32_10⟩
def k0_off7 (k0_t3 : Fin k0_t3_loop.trips) (c0_i32_1223 : BitVec 32) : Fin 4 → Nat :=
  let c0_1224 : Index := 0#32
  let c0_1225 : Index := 0#32
  let c2_i32_1220 : BitVec 32 := 2#32
  let c0_i32_8 : BitVec 32 := 0#32
  let c1_i32_10 : BitVec 32 := 1#32
  let arg5 : BitVec 32 := Scf.iv c0_i32_8 c1_i32_10 k0_t3
  let v6135 : BitVec 32 := Scalar.muli c2_i32_1220 arg5
  let c4_i32_1221 : BitVec 32 := 4#32
  let v6136 : BitVec 32 := Scalar.muli v6135 c4_i32_1221
  let c128_i32_1222 : BitVec 32 := 128#32
  let v6137 : BitVec 32 := Scalar.muli v6136 c128_i32_1222
  let v6138 : BitVec 32 := Scalar.addi v6137 c0_i32_1223
  let v6139 : Index := Scalar.indexCast v6138
  let c0_1226 : Index := 0#32
  ![0, 0, v6139.toNat, 0]
@[reducible] def k0_t4_loop : Scf.Loop 32 :=
  let c0_i32_12 : BitVec 32 := 0#32
  let c4_i32_13 : BitVec 32 := 4#32
  let v10 : BitVec 32 := Scalar.addi c0_i32_12 c4_i32_13
  let c1_i32_14 : BitVec 32 := 1#32
  ⟨c0_i32_12, v10, c1_i32_14⟩
def k0_off8 (k0_t4 : Fin k0_t4_loop.trips) (c0_i32_1224 : BitVec 32) : Fin 4 → Nat :=
  let c0_1225 : Index := 0#32
  let c0_1226 : Index := 0#32
  let c2_i32_1220 : BitVec 32 := 2#32
  let c0_i32_12 : BitVec 32 := 0#32
  let c1_i32_14 : BitVec 32 := 1#32
  let arg5 : BitVec 32 := Scf.iv c0_i32_12 c1_i32_14 k0_t4
  let v6135 : BitVec 32 := Scalar.muli c2_i32_1220 arg5
  let c1_i32_1221 : BitVec 32 := 1#32
  let v6136 : BitVec 32 := Scalar.addi v6135 c1_i32_1221
  let c4_i32_1222 : BitVec 32 := 4#32
  let v6137 : BitVec 32 := Scalar.muli v6136 c4_i32_1222
  let c128_i32_1223 : BitVec 32 := 128#32
  let v6138 : BitVec 32 := Scalar.muli v6137 c128_i32_1223
  let v6139 : BitVec 32 := Scalar.addi v6138 c0_i32_1224
  let v6140 : Index := Scalar.indexCast v6139
  let c0_1227 : Index := 0#32
  ![0, 0, v6140.toNat, 0]
@[reducible] def k0_t5_loop : Scf.Loop 32 :=
  let c0_i32_16 : BitVec 32 := 0#32
  let c2_i32 : BitVec 32 := 2#32
  let v11 : BitVec 32 := Scalar.addi c0_i32_16 c2_i32
  let c1_i32_17 : BitVec 32 := 1#32
  ⟨c0_i32_16, v11, c1_i32_17⟩
def k0_off9 (k0_t5 : Fin k0_t5_loop.trips) (c0_i32_1222 : BitVec 32) : Fin 4 → Nat :=
  let c0_1223 : Index := 0#32
  let c0_1224 : Index := 0#32
  let c2_i32_1220 : BitVec 32 := 2#32
  let c0_i32_16 : BitVec 32 := 0#32
  let c1_i32_17 : BitVec 32 := 1#32
  let arg5 : BitVec 32 := Scf.iv c0_i32_16 c1_i32_17 k0_t5
  let v6135 : BitVec 32 := Scalar.muli c2_i32_1220 arg5
  let c8_i32 : BitVec 32 := 8#32
  let v6136 : BitVec 32 := Scalar.muli v6135 c8_i32
  let c128_i32_1221 : BitVec 32 := 128#32
  let v6137 : BitVec 32 := Scalar.muli v6136 c128_i32_1221
  let v6138 : BitVec 32 := Scalar.addi v6137 c0_i32_1222
  let v6139 : Index := Scalar.indexCast v6138
  let c0_1225 : Index := 0#32
  ![0, 0, v6139.toNat, 0]
@[reducible] def k0_t6_loop : Scf.Loop 32 :=
  let c0_i32_19 : BitVec 32 := 0#32
  let c2_i32_20 : BitVec 32 := 2#32
  let v12 : BitVec 32 := Scalar.addi c0_i32_19 c2_i32_20
  let c1_i32_21 : BitVec 32 := 1#32
  ⟨c0_i32_19, v12, c1_i32_21⟩
def k0_off10 (k0_t6 : Fin k0_t6_loop.trips) (c0_i32_1223 : BitVec 32) : Fin 4 → Nat :=
  let c0_1224 : Index := 0#32
  let c0_1225 : Index := 0#32
  let c2_i32_1220 : BitVec 32 := 2#32
  let c0_i32_19 : BitVec 32 := 0#32
  let c1_i32_21 : BitVec 32 := 1#32
  let arg5 : BitVec 32 := Scf.iv c0_i32_19 c1_i32_21 k0_t6
  let v6135 : BitVec 32 := Scalar.muli c2_i32_1220 arg5
  let c1_i32_1221 : BitVec 32 := 1#32
  let v6136 : BitVec 32 := Scalar.addi v6135 c1_i32_1221
  let c8_i32 : BitVec 32 := 8#32
  let v6137 : BitVec 32 := Scalar.muli v6136 c8_i32
  let c128_i32_1222 : BitVec 32 := 128#32
  let v6138 : BitVec 32 := Scalar.muli v6137 c128_i32_1222
  let v6139 : BitVec 32 := Scalar.addi v6138 c0_i32_1223
  let v6140 : Index := Scalar.indexCast v6139
  let c0_1226 : Index := 0#32
  ![0, 0, v6140.toNat, 0]
def k0_off11 (c2_i32_24 : BitVec 32) (c16_i32 : BitVec 32) (c0_i32_25 : BitVec 32) : Fin 4 → Nat :=
  let c0_26 : Index := 0#32
  let c0_27 : Index := 0#32
  let c0_i32_23 : BitVec 32 := 0#32
  let v13 : BitVec 32 := Scalar.muli c2_i32_24 c0_i32_23
  let v14 : BitVec 32 := Scalar.muli v13 c16_i32
  let c128_i32 : BitVec 32 := 128#32
  let v15 : BitVec 32 := Scalar.muli v14 c128_i32
  let v16 : BitVec 32 := Scalar.addi v15 c0_i32_25
  let v17 : Index := Scalar.indexCast v16
  let c0_28 : Index := 0#32
  ![0, 0, v17.toNat, 0]
def k0_off11_at (r : Fin 48) : BitVec 32 × BitVec 32 × BitVec 32 :=
  if r.val < 24 then
    if r.val < 12 then
      if r.val < 6 then
        if r.val < 3 then
          if r.val < 1 then
            (2#32, 16#32, 0#32)
          else
            if r.val < 2 then
              (2#32, 16#32, 128#32)
            else
              (2#32, 16#32, 256#32)
        else
          if r.val < 4 then
            (2#32, 16#32, 384#32)
          else
            if r.val < 5 then
              (2#32, 16#32, 512#32)
            else
              (2#32, 16#32, 640#32)
      else
        if r.val < 9 then
          if r.val < 7 then
            (2#32, 16#32, 768#32)
          else
            if r.val < 8 then
              (2#32, 16#32, 896#32)
            else
              (2#32, 16#32, 1024#32)
        else
          if r.val < 10 then
            (2#32, 16#32, 1152#32)
          else
            if r.val < 11 then
              (2#32, 16#32, 1280#32)
            else
              (2#32, 16#32, 1408#32)
    else
      if r.val < 18 then
        if r.val < 15 then
          if r.val < 13 then
            (2#32, 16#32, 1536#32)
          else
            if r.val < 14 then
              (2#32, 16#32, 1664#32)
            else
              (2#32, 16#32, 1792#32)
        else
          if r.val < 16 then
            (2#32, 16#32, 1920#32)
          else
            if r.val < 17 then
              (1#32, 32#32, 0#32)
            else
              (1#32, 32#32, 128#32)
      else
        if r.val < 21 then
          if r.val < 19 then
            (1#32, 32#32, 256#32)
          else
            if r.val < 20 then
              (1#32, 32#32, 384#32)
            else
              (1#32, 32#32, 512#32)
        else
          if r.val < 22 then
            (1#32, 32#32, 640#32)
          else
            if r.val < 23 then
              (1#32, 32#32, 768#32)
            else
              (1#32, 32#32, 896#32)
  else
    if r.val < 36 then
      if r.val < 30 then
        if r.val < 27 then
          if r.val < 25 then
            (1#32, 32#32, 1024#32)
          else
            if r.val < 26 then
              (1#32, 32#32, 1152#32)
            else
              (1#32, 32#32, 1280#32)
        else
          if r.val < 28 then
            (1#32, 32#32, 1408#32)
          else
            if r.val < 29 then
              (1#32, 32#32, 1536#32)
            else
              (1#32, 32#32, 1664#32)
      else
        if r.val < 33 then
          if r.val < 31 then
            (1#32, 32#32, 1792#32)
          else
            if r.val < 32 then
              (1#32, 32#32, 1920#32)
            else
              (1#32, 32#32, 2048#32)
        else
          if r.val < 34 then
            (1#32, 32#32, 2176#32)
          else
            if r.val < 35 then
              (1#32, 32#32, 2304#32)
            else
              (1#32, 32#32, 2432#32)
    else
      if r.val < 42 then
        if r.val < 39 then
          if r.val < 37 then
            (1#32, 32#32, 2560#32)
          else
            if r.val < 38 then
              (1#32, 32#32, 2688#32)
            else
              (1#32, 32#32, 2816#32)
        else
          if r.val < 40 then
            (1#32, 32#32, 2944#32)
          else
            if r.val < 41 then
              (1#32, 32#32, 3072#32)
            else
              (1#32, 32#32, 3200#32)
      else
        if r.val < 45 then
          if r.val < 43 then
            (1#32, 32#32, 3328#32)
          else
            if r.val < 44 then
              (1#32, 32#32, 3456#32)
            else
              (1#32, 32#32, 3584#32)
        else
          if r.val < 46 then
            (1#32, 32#32, 3712#32)
          else
            if r.val < 47 then
              (1#32, 32#32, 3840#32)
            else
              (1#32, 32#32, 3968#32)
def k0_off12 (c0_i32_319 : BitVec 32) : Fin 4 → Nat :=
  let c0_320 : Index := 0#32
  let c0_321 : Index := 0#32
  let c2_i32_315 : BitVec 32 := 2#32
  let c0_i32_314 : BitVec 32 := 0#32
  let v1520 : BitVec 32 := Scalar.muli c2_i32_315 c0_i32_314
  let c1_i32_316 : BitVec 32 := 1#32
  let v1521 : BitVec 32 := Scalar.addi v1520 c1_i32_316
  let c16_i32_317 : BitVec 32 := 16#32
  let v1522 : BitVec 32 := Scalar.muli v1521 c16_i32_317
  let c128_i32_318 : BitVec 32 := 128#32
  let v1523 : BitVec 32 := Scalar.muli v1522 c128_i32_318
  let v1524 : BitVec 32 := Scalar.addi v1523 c0_i32_319
  let v1525 : Index := Scalar.indexCast v1524
  let c0_322 : Index := 0#32
  ![0, 0, v1525.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S2x16x4096x128 : Shape := ⟨4, ![2, 16, 4096, 128]⟩
abbrev S64 : Shape := ⟨1, ![64]⟩
abbrev S_ : Shape := ⟨0, ![]⟩
abbrev S64x1 : Shape := ⟨2, ![64, 1]⟩
abbrev S2x16x4096x64 : Shape := ⟨4, ![2, 16, 4096, 64]⟩

abbrev nBuf : Space → Nat
  | .hbm => 24
  | .vmem => 0
  | .smem => 0
  | _ => 0

abbrev bufTy : (tb : Table) → Fin (tcTables nBuf tb) → BufTy
  | .hbm, ⟨0, _⟩ => ⟨S2x16x4096x128, .f32⟩
  | .hbm, ⟨1, _⟩ => ⟨S2x16x4096x128, .f32⟩
  | .hbm, ⟨2, _⟩ => ⟨S2x16x4096x128, .f32⟩
  | .hbm, ⟨3, _⟩ => ⟨S64, .i32⟩
  | .hbm, ⟨4, _⟩ => ⟨S2x16x4096x128, .f32⟩
  | .hbm, ⟨5, _⟩ => ⟨S_, .i32⟩
  | .hbm, ⟨6, _⟩ => ⟨S64, .i32⟩
  | .hbm, ⟨7, _⟩ => ⟨S64, .i1⟩
  | .hbm, ⟨8, _⟩ => ⟨S_, .i32⟩
  | .hbm, ⟨9, _⟩ => ⟨S64, .i32⟩
  | .hbm, ⟨10, _⟩ => ⟨S64, .i32⟩
  | .hbm, ⟨11, _⟩ => ⟨S64, .i32⟩
  | .hbm, ⟨12, _⟩ => ⟨S64x1, .i32⟩
  | .hbm, ⟨13, _⟩ => ⟨S2x16x4096x64, .f32⟩
  | .hbm, ⟨14, _⟩ => ⟨S2x16x4096x64, .f32⟩
  | .hbm, ⟨15, _⟩ => ⟨S_, .i32⟩
  | .hbm, ⟨16, _⟩ => ⟨S64, .i32⟩
  | .hbm, ⟨17, _⟩ => ⟨S64, .i1⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S64, .i32⟩
  | .hbm, ⟨22, _⟩ => ⟨S64x1, .i32⟩
  | .hbm, ⟨23, _⟩ => ⟨S2x16x4096x128, .f32⟩
  | _, _ => ⟨S2x16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Proof.OriginalRun.lean ====
module

public import proofs.«01_k».proof.Proof.Gen.Kernel.Frame
public import proofs.«01_k».proof.Proof.Gen.Kernel.Loops

/-!
# The original kernel's body, run once

The frame of the kernel as written needs less than its idealization's value does: the body ends, leaves its inputs as they
were, and leaves something, no matter what, in its output buffer.
-/

@[expose] public section

set_option maxRecDepth 16384

noncomputable section

namespace Cert.Sorting.Original

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body on whole staging buffers: it ends with both inputs unchanged and the output at some contents. -/
theorem body_ends (c : Dev nD) (i : grid0.Coords)
    (arg2 : Memref sig .tc .vmem S1x1x4096x128 .f32) (harg2 : arg2.IsWhole) (arg3 : Memref sig .tc .vmem S8x128 .i32)
    (harg3 : arg3.IsWhole) (arg4 : Memref sig .tc .vmem S1x1x4096x128 .f32) (harg4 : arg4.IsWhole)
    (x0 : Vec F S1x1x4096x128 .f32) (x1 : Vec F S8x128 .i32) (E : Set ℕ) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ (∃ d, owns (c : Thread nD τ) arg4 fullShare d)) -∗ K ⟨⟩))
      ⊢ wp frame (wpE (defs₀ (F := F)) Variants.none c none) E (cc0__bitonic_kernel i arg2 harg2 arg3 harg3 arg4 harg4) K := by
  simp only [cc0__bitonic_kernel_eq_skeleton]; unfold cc0__bitonic_kernel_skel
  simp only [k0_part293_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part294_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton]
  unfold owns
  iintro ⟨⟨%f0, %hf0, H0⟩, ⟨%f1, %hf1, H1⟩, ⟨%d2, %f2, -, H2⟩, Hk⟩
  obtain rfl := harg2.eq_unread hf0; obtain rfl := harg3.eq_unread hf1
  sl_exec
  sl_step
  iapply Hk
  isplitl [H0]
  · iexists _; isplitr; · ipureintro; exact harg2.read_unread _
    iexact H0
  isplitl [H1]
  · iexists _; isplitr; · ipureintro; exact harg3.read_unread _
    iexact H1
  iexists _, _; isplitr; swap; · iexact H2
  ipureintro; rfl

end Cert.Sorting.Original

end
-- ==== Proof.OriginalFrame.lean ====
module

public import proofs.«01_k».proof.Proof.OriginalRun
public import Idealize.ShloMosaic.Lib.Claim

/-!
# The original kernel's frame

The launch of the kernel as written, its output's contents forgotten: every execution ends, every argument holds what it
held, and every semaphore counter is zero.
-/

@[expose] public section

set_option maxRecDepth 16384

noncomputable section

namespace Cert.Sorting.Original

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window whose contents are not followed: the output's. -/
def unfollowed : Fin cfg0.W → Bool
  | ⟨0, _⟩ => false
  | ⟨1, _⟩ => false
  | ⟨2, _⟩ => true

/-- The proof data of the pipeline on core `c`: the inputs' buffers keep their blocks; of the output's nothing is said. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => Dat.unnamed 2 t
  Φ _ := Pipeline.ΦA spec0 c
  q _ := fullShare
  owed _ := 0

theorem dats_A (c : Dev nD) (w : Fin cfg0.W) : (dats m 0 c).A w = V m c (Pipeline.arrRef spec0 w) := by
  dsimp only [dats]

theorem after_zero (c : Dev nD) (t : Fin cfg0.N) : (dats m 0 c).after 0 t = iblk m c 0 t := by dsimp only [dats]
theorem after_one (c : Dev nD) (t : Fin cfg0.N) : (dats m 0 c).after 1 t = iblk m c 1 t := by dsimp only [dats]

theorem before_zero (c : Dev nD) (t : Fin cfg0.N) (d) : (dats m 0 c).before 0 t d = iblk m c 0 t :=
  before0_0_of m (dats m 0 c) (dats_A m c 0) (after_zero m c) t d
theorem before_one (c : Dev nD) (t : Fin cfg0.N) (d) : (dats m 0 c).before 1 t d = iblk m c 1 t :=
  before0_1_of m (dats m 0 c) (dats_A m c 1) (after_one m c) t d

/-- What the body is called with at point `t`, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare d))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare d))

/-- The body at any point: its inputs hold their blocks before and after. -/
theorem sound_point (c : Dev nD) (t : Fin cfg0.N) :
    pointPre m c t ⊢ wp frame (wpE (defs₀ (F := F)) Variants.none c none) Set.univ (bodyAt0 t) (fun _ => pointPost m c t) := by
  unfold pointPre pointPost bodyAt0
  simp only [before_zero, before_one]
  rw [show (dats m 0 c).Φ t.succ = (dats m 0 c).Φ t.castSucc from rfl,
    show (dats m 0 c).owesAt () t.succ = (dats m 0 c).owesAt () t.castSucc from rfl,
    after_zero, after_one]
  iintro ⟨HΦ, Ho, ⟨%d0, H0⟩, ⟨%d1, H1⟩, H2⟩
  iapply (body_ends c (grid0.coords t) (st0_0 t) (hstage0_0 ((cfg0.slots t 0).cast nbuf0_0)) (st0_1 t)
    (hstage0_1 ((cfg0.slots t 1).cast nbuf0_1)) (st0_2 t) (hstage0_2 ((cfg0.slots t 2).cast nbuf0_2))
    (iblk m c 0 t) (iblk m c 1 t) Set.univ _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexact H1
  iexact H2

theorem point_row (t : Fin cfg0.N) :
    defs₀ (F := F) .tc cfg0.body (cfg0.bodyArgs t (cfg0.slots t)) = bodyAt0 t := by
  unfold defs₀; rw [Defs.onTc_tc]

/-- The body's obligation at every point, the output's contents forgotten. -/
theorem point_obligation (c : Dev nD) :
    BodyObligation (dats (F := F) m 0 c) (defs₀ (F := F)) Variants.none () Set.univ unfollowed := fun t => by
  rw [bigSep_W0, bigSep_W0, point_row]
  exact triple_restated (sound_point m c t) rfl .rfl fun _ => .rfl

set_option backward.isDefEq.respectTransparency.types false in
/-- Every execution ends; then each input array holds what it held at the region's start, every buffer outside the
    pipeline too, and every semaphore counter is zero. -/
theorem run_quiescent : θ_run defs (onTc (τ := τ) (main (F := F))) (s₀ m ρ) (fun r =>
    Pipeline.RDat.FramePost (cfgs 0) (fun c => (dats m 0 c).toRForget unfollowed) (V m) r ∧ r.2.sem = fun _ => 0) :=
  Pipeline.θ_run_frame_forget (Q' := _) cfgs (dats m) (0 : Fin 1) launch0 defs₀ Variants.none unfollowed m ρ main
    (hbody := fun c => (point_obligation m c).loose) (hshare := fun c => (dats m 0 c).share_full fun _ => rfl)
    (howed := fun _ _ => rfl) (V := V m) (hmain := hmain m Variants.none) (hA := dats_A m) (hΦ := fun _ _ => rfl)

/-- The original kernel's frame: every execution ends with the arguments unchanged and every semaphore counter at zero. -/
theorem frame_original : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (h.1.arr_in c 0 rfl).trans ((dats_A m c 0).trans (V_main_arg2 m c)),
      ((h.1 c).2 main_arg3 (Pipeline.mem_restRefs_of main_arg3 (by decide) (by decide))).trans (V_main_arg3 m c)⟩, h.2⟩)
    (run_quiescent m ρ)

end Cert.Sorting.Original

end
-- ==== Proof.Column.lean ====
module

public import Idealize.ShloMosaic.Lib.SortNet.Sorts

/-!
# The sorting network on one column

A column is a function from row numbers to values. A stage at distance `J` compares row `r`, where `r / J` is even, with
row `r + J`. Levels of stages sort 4096 rows: that is the bitonic network of `Lib/SortNet`.
-/

@[expose] public section

namespace Cert.Sorting

open Idealize.ShloMosaic Idealize.ShloMosaic.SortNet

variable {α : Type*} [LinearOrder α]

/-- One stage at distance `J`: the lower row of a pair gets the smaller value, or the larger one where `dsc` says so of
    the lower row. -/
def stg (J : ℕ) (dsc : ℕ → Bool) (x : ℕ → α) (r : ℕ) : α :=
  if r / J % 2 = 0 then (if dsc r then max (x r) (x (r + J)) else min (x r) (x (r + J)))
  else (if dsc (r - J) then min (x (r - J)) (x r) else max (x (r - J)) (x r))

/-- The stages at distances `2 ^ (p - 1)`, …, 2, 1. -/
def mrg : ℕ → (ℕ → Bool) → (ℕ → α) → ℕ → α
  | 0, _, x => x
  | p + 1, dsc, x => mrg p dsc (stg (2 ^ p) dsc x)

/-- Bit `l` of a row. -/
def bit (l r : ℕ) : Bool := decide (r / 2 ^ l % 2 = 1)

/-- The first `l` levels: level `l` merges blocks of `2 ^ l` rows, up and down in turn. -/
def lev : ℕ → (ℕ → α) → ℕ → α
  | 0, x => x
  | l + 1, x => mrg (l + 1) (bit (l + 1)) (lev l x)

theorem add_div_mod {J B r : ℕ} (h : 2 * J ∣ B) : (B + r) / J % 2 = r / J % 2 := by
  rcases Nat.eq_zero_or_pos J with rfl | hJ
  · simp
  · obtain ⟨m, rfl⟩ := h
    rw [show 2 * J * m + r = r + J * (2 * m) by rw [Nat.add_comm, Nat.mul_comm 2 J, Nat.mul_assoc], Nat.add_mul_div_left _ _ hJ, Nat.add_mul_mod_self_left]

theorem le_of_div_mod {J r : ℕ} (h : ¬r / J % 2 = 0) : J ≤ r := by
  by_contra hlt
  rw [Nat.div_eq_of_lt (Nat.lt_of_not_le hlt)] at h
  exact h rfl

/-- A stage on the rows from `B` on, `B` a multiple of `2 J`. -/
theorem stg_shift {J B : ℕ} (h : 2 * J ∣ B) (dsc : ℕ → Bool) (x : ℕ → α) (r : ℕ) :
    stg J dsc x (B + r) = stg J (fun r => dsc (B + r)) (fun r => x (B + r)) r := by
  unfold stg
  rw [add_div_mod h]
  split
  · rw [Nat.add_assoc]
  · next hr => rw [show B + r - J = B + (r - J) by have := le_of_div_mod hr; omega]

/-- The same for the stages of a merge. -/
theorem mrg_shift {p B : ℕ} (h : 2 ^ p ∣ B) (dsc : ℕ → Bool) (x : ℕ → α) (r : ℕ) :
    mrg p dsc x (B + r) = mrg p (fun r => dsc (B + r)) (fun r => x (B + r)) r := by
  induction p generalizing x r with
  | zero => rfl
  | succ p ih =>
    rw [mrg, mrg, ih (dvd_trans (pow_dvd_pow 2 p.le_succ) h)]
    exact congrArg (fun y => mrg p _ y r) (funext fun r => stg_shift (by rwa [← pow_succ']) dsc x r)

/-- Stages within a block see the block only. -/
theorem stg_congr {p : ℕ} {dsc dsc' : ℕ → Bool} {x y : ℕ → α} (hd : ∀ r < 2 ^ (p + 1), dsc r = dsc' r)
    (hx : ∀ r < 2 ^ (p + 1), x r = y r) (r : ℕ) (hr : r < 2 ^ (p + 1)) : stg (2 ^ p) dsc x r = stg (2 ^ p) dsc' y r := by
  have hp : 2 ^ (p + 1) = 2 ^ p + 2 ^ p := by rw [pow_succ, Nat.mul_two]
  unfold stg
  split
  · next h =>
    have hlt : r < 2 ^ p := by
      by_contra hge
      have h1 : r / 2 ^ p = 1 := by
        rw [Nat.div_eq_iff (Nat.two_pow_pos p)]; omega
      rw [h1] at h; exact absurd h (by decide)
    rw [hd r hr, hx r hr, hx (r + 2 ^ p) (by omega)]
  · rw [hd (r - 2 ^ p) (by omega), hx r hr, hx (r - 2 ^ p) (by omega)]

/-- A merge of a block of `2 ^ p` rows sees that block only. -/
theorem mrg_congr {p : ℕ} {dsc dsc' : ℕ → Bool} {x y : ℕ → α} (hd : ∀ r < 2 ^ p, dsc r = dsc' r)
    (hx : ∀ r < 2 ^ p, x r = y r) (r : ℕ) (hr : r < 2 ^ p) : mrg p dsc x r = mrg p dsc' y r := by
  induction p generalizing dsc dsc' x y r with
  | zero => exact hx r hr
  | succ p ih =>
    have hp : 2 ^ (p + 1) = 2 ^ p + 2 ^ p := by rw [pow_succ, Nat.mul_two]
    have hs := stg_congr hd hx
    rw [mrg, mrg]
    by_cases h : r < 2 ^ p
    · exact ih (fun r hr => hd r (by omega)) (fun r hr => hs r (by omega)) r h
    · obtain ⟨r, rfl⟩ : ∃ r', r = 2 ^ p + r' := ⟨r - 2 ^ p, by omega⟩
      rw [mrg_shift dvd_rfl, mrg_shift dvd_rfl]
      exact ih (fun r hr => hd _ (by omega)) (fun r hr => hs _ (by omega)) r (by omega)

/-- A merge of one block, from what stands in it. -/
theorem mrg_block {p B : ℕ} (h : 2 ^ p ∣ B) {dsc dsc' : ℕ → Bool} {x y : ℕ → α} (hd : ∀ r < 2 ^ p, dsc (B + r) = dsc' r)
    (hx : ∀ r < 2 ^ p, x (B + r) = y r) (r : ℕ) (hr : r < 2 ^ p) : mrg p dsc x (B + r) = mrg p dsc' y r := by
  rw [mrg_shift h]
  exact mrg_congr hd hx r hr

theorem bit_add {l B : ℕ} (h : 2 ^ (l + 1) ∣ B) (r : ℕ) : bit l (B + r) = bit l r := by
  unfold bit
  rw [add_div_mod (by rwa [← pow_succ'])]

/-- The levels on the rows from `B` on. -/
theorem lev_shift {l B : ℕ} (h : 2 ^ (l + 1) ∣ B) (x : ℕ → α) (r : ℕ) :
    lev l x (B + r) = lev l (fun r => x (B + r)) r := by
  induction l generalizing r with
  | zero => rfl
  | succ l ih =>
    rw [lev, lev, mrg_shift (dvd_trans (pow_dvd_pow 2 (l + 1).le_succ) h)]
    rw [show (fun r => bit (l + 1) (B + r)) = bit (l + 1) from funext fun r => bit_add h r,
      show (fun r => lev l x (B + r)) = lev l (fun r => x (B + r)) from
        funext fun r => ih (dvd_trans (pow_dvd_pow 2 (l + 1).le_succ) h) r]

/-- A stage of the column is a stage of the network. -/
theorem stg_eq_stage {p s : ℕ} (hs : s < p) (dsc : ℕ → Bool) (x : ℕ → α) (v : Fin (2 ^ p) → α) (hx : ∀ i : Fin (2 ^ p), x i = v i)
    (i : Fin (2 ^ p)) : stg (2 ^ s) dsc x i = Network.apply (stage p s fun i => dsc i) v i := by
  have hbit : ∀ i : Fin (2 ^ p), i.val &&& 2 ^ s = 0 ↔ i.val / 2 ^ s % 2 = 0 := fun i => by
    rw [and_two_pow_eq_zero_iff_testBit, Nat.testBit_eq_decide_div_mod_eq, decide_eq_false_iff_not]
    omega
  unfold stg
  by_cases hi : i.val &&& 2 ^ s = 0
  · rw [if_pos ((hbit i).1 hi), (apply_stage hs _ v i hi).1, hx i, ← hx (partner p s i), partner_val_of_clear hs i hi]
  · rw [if_neg fun h => hi ((hbit i).2 h)]
    have h2 := (apply_stage hs (fun i => dsc i) v (partner p s i) (partner_and_of_set hs i hi)).2
    rw [partner_partner hs] at h2
    rw [h2, hx i, ← hx (partner p s i), (partner_val_of_set hs i hi).2]

/-- A merge of the column is the stages of the network. -/
theorem mrg_eq_stages {p q : ℕ} (hq : q ≤ p) (dsc : ℕ → Bool) (x : ℕ → α) (v : Fin (2 ^ p) → α) (hx : ∀ i : Fin (2 ^ p), x i = v i)
    (i : Fin (2 ^ p)) :
    mrg q dsc x i = Network.apply ((List.range q).reverse.flatMap fun s => stage p s fun i => dsc i) v i := by
  induction q generalizing x v with
  | zero => exact hx i
  | succ q ih =>
    rw [mrg, List.range_succ, List.reverse_append, List.reverse_singleton, List.singleton_append, List.flatMap_cons,
      Network.apply_append]
    exact ih (by omega) _ _ fun i => stg_eq_stage (by omega) dsc x v hx i

/-- The levels of the column are the levels of the network. -/
theorem lev_eq_levels {p l : ℕ} (hl : l ≤ p) (x : ℕ → α) (i : Fin (2 ^ p)) :
    lev l x i = Network.apply (levelsNet p false l) (fun i => x i) i := by
  induction l generalizing i with
  | zero => rfl
  | succ l ih =>
    rw [lev, levelsNet_succ, Network.apply_append, mrg_eq_stages hl _ _ _ (ih (by omega))]
    unfold levelNet
    refine congrArg (fun w => Network.apply ((List.range (l + 1)).reverse.flatMap fun s => stage p s w) _ i) (funext fun i => ?_)
    unfold bit
    by_cases h : i.val &&& 2 ^ (l + 1) = 0
    · have := (and_two_pow_eq_zero_iff_testBit _ _).1 h
      rw [Nat.testBit_eq_decide_div_mod_eq] at this
      rw [this, decide_eq_true h]
      rfl
    · have : ¬(i.val.testBit (l + 1) = false) := fun h' => h ((and_two_pow_eq_zero_iff_testBit _ _).2 h')
      rw [Bool.not_eq_false, Nat.testBit_eq_decide_div_mod_eq] at this
      rw [this, decide_eq_false h]
      rfl

/-- All twelve levels leave the 4096 rows in ascending order, … -/
theorem lev_monotone (x : ℕ → α) : Monotone fun i : Fin 4096 => lev 12 x i := by
  have h : (fun i : Fin 4096 => lev 12 x i) = Network.apply (sortNet 12 false) fun i : Fin (2 ^ 12) => x i :=
    funext fun i => lev_eq_levels (p := 12) le_rfl x i
  rw [h]
  exact sortNet_apply_monotone 12 _

/-- … and only move them. -/
theorem lev_perm (x : ℕ → α) : ∃ σ : Equiv.Perm (Fin 4096), ∀ i : Fin 4096, lev 12 x i = x (σ i) := by
  obtain ⟨σ, h⟩ := Network.exists_perm (sortNet 12 false) fun i : Fin (2 ^ 12) => x i
  exact ⟨σ, fun i => (lev_eq_levels (p := 12) le_rfl x i).trans (congrFun h i)⟩

end Cert.Sorting

end
-- ==== Proof.Order.lean ====
module

public import proofs.«01_k».proof.Proof.Column
public import proofs.«01_k».proof.Proof.Gen.ReferenceIdeal.Run
public import Idealize.ShloMosaic.Lib.SortFacts
public import Idealize.ShloMosaic.Lib.IdealHost
public import Mathlib.Data.List.Sort
public import Mathlib.Data.List.FinRange

/-!
# The network against a stable sort

A column has one ascending rearrangement. The network's last level and the reference's sort are both ascending
rearrangements of the column, so they agree; and a column negated, put through the network and negated back is the sorted
column read backwards.
-/

@[expose] public section

noncomputable section

namespace Cert.Sorting

open Idealize.ShloMosaic

/-- Two ascending rearrangements of one column are equal. -/
theorem ascending_unique {n : ℕ} {f : Fin n → EReal} {σ τ : Equiv.Perm (Fin n)} (hσ : Monotone (f ∘ σ)) (hτ : Monotone (f ∘ τ)) :
    f ∘ σ = f ∘ τ := by
  have hp : (List.ofFn (f ∘ σ)).Perm (List.ofFn (f ∘ τ)) := (σ.ofFn_comp_perm f).trans (τ.ofFn_comp_perm f).symm
  exact List.ofFn_injective (hp.eq_of_pairwise' hσ.sortedLE_ofFn.pairwise hτ.sortedLE_ofFn.pairwise)

/-- The reference's comparator, on the extended reals: strictly less. -/
theorem comparator_eq (x y : EReal) :
    (Cert.ReferenceIdeal.comparator_f32_d2 (F := Ideal) x y == 1#1) = decide (x < y) := by
  have hs : ∀ z : EReal, (Scalar.select (FloatOps.cmpf (F := Ideal) (φ := .f32) .une z z) (FloatOps.ofBits (F := Ideal) .f32 0x7FC00000#32)
      (Scalar.select (FloatOps.cmpf (F := Ideal) (φ := .f32) .oeq z (FloatOps.ofBits (F := Ideal) .f32 0x00000000#32))
        (FloatOps.ofBits (F := Ideal) .f32 0x00000000#32) z) : EReal) = z := fun z => by
    have h0 : (FloatOps.ofBits (F := Ideal) .f32 0x00000000#32 : EReal) = 0 := by
      show Ideal.ofBits .f32 0x00000000#32 = 0
      simp [Ideal.ofBits, Ideal.ieee]
    have hn : FloatOps.cmpf (F := Ideal) (φ := .f32) .une z z = 0#1 := by
      show BitVec.ofBool (decide (z ≠ z)) = 0#1
      simp
    rw [hn, h0]
    by_cases hz : z = 0
    · subst hz
      unfold Scalar.select
      rw [if_neg (by decide), ite_self]
    · have he : FloatOps.cmpf (F := Ideal) (φ := .f32) .oeq z (0 : EReal) = 0#1 := by
        show BitVec.ofBool (decide (z = 0)) = 0#1
        simp [hz]
      rw [he]
      rfl
  unfold Cert.ReferenceIdeal.comparator_f32_d2
  dsimp only
  erw [hs x, hs y]
  show (BitVec.ofBool (decide (x < y)) == 1#1) = decide (x < y)
  cases decide (x < y) <;> rfl

/-- The order in which the reference's sort takes the places of a column. -/
def order (x : ℕ → EReal) : Fin 4096 → Fin 4096 :=
  sortedFrom fun k k' : Fin 4096 => Cert.ReferenceIdeal.comparator_f32_d2 (F := Ideal) (x k.val) (x k'.val) == 1#1

/-- The order is a rearrangement. -/
def orderPerm (x : ℕ → EReal) : Equiv.Perm (Fin 4096) :=
  Equiv.ofBijective (order x) ⟨sortedFrom_injective _, sortedFrom_surjective _⟩

/-- Along it the column ascends. -/
theorem order_monotone (x : ℕ → EReal) : Monotone ((fun k : Fin 4096 => x k.val) ∘ orderPerm x) := by
  have hb : (fun k k' : Fin 4096 => Cert.ReferenceIdeal.comparator_f32_d2 (F := Ideal) (x k.val) (x k'.val) == 1#1)
      = fun k k' : Fin 4096 => decide (x k.val < x k'.val) := funext fun k => funext fun k' => comparator_eq _ _
  intro i j hij
  rcases hij.eq_or_lt with rfl | hlt
  · exact le_rfl
  have h := sortedFrom_noInversion (fun k k' : Fin 4096 => decide (x k.val < x k'.val)) (fun k k' : Fin 4096 => decide (x k.val < x k'.val))
    (fun a b h => decide_eq_false (not_lt_of_gt (of_decide_eq_true h))) (fun _ _ h => h)
    (fun a b c h h' => decide_eq_false (not_lt_of_ge (le_trans (le_of_not_gt (of_decide_eq_false h')) (le_of_not_gt (of_decide_eq_false h)))))
    i j hlt
  have h' := le_of_not_gt (of_decide_eq_false h)
  show x (order x i).val ≤ x (order x j).val
  unfold order
  rw [hb]
  exact h'

/-- The sorted column is the network's last level. -/
theorem order_eq_lev (x : ℕ → EReal) (i : Fin 4096) : x (order x i).val = lev 12 x i.val := by
  obtain ⟨σ, hσ⟩ := lev_perm x
  have hm : Monotone ((fun k : Fin 4096 => x k.val) ∘ σ) := fun a b hab => by
    have := lev_monotone x hab
    dsimp only at this
    rw [hσ, hσ] at this
    exact this
  have h := congrFun (ascending_unique (order_monotone x) hm) i
  exact h.trans (hσ i).symm

/-- The sorted column read backwards is the network's last level of the negated column, negated back. -/
theorem order_rev_eq_lev (x : ℕ → EReal) (i : Fin 4096) :
    x (order x i.rev).val = lev 12 (fun r => x r * (-1)) i.val * (-1) := by
  have hneg : ∀ z : EReal, z * (-1) = -z := fun z => by rw [mul_neg, mul_one]
  obtain ⟨σ, hσ⟩ := lev_perm (fun r => x r * (-1))
  have e : ∀ k : Fin 4096, lev 12 (fun r => x r * (-1)) k.val * (-1) = x (σ k).val := fun k => by
    rw [hσ k, hneg, hneg, neg_neg]
  have hm : Monotone ((fun k : Fin 4096 => x k.val) ∘ (Fin.revPerm.trans σ)) := fun a b hab => by
    have h := lev_monotone (fun r => x r * (-1)) (Fin.rev_le_rev.mpr hab)
    dsimp only at h
    show x (σ a.rev).val ≤ x (σ b.rev).val
    rw [← e, ← e, hneg, hneg]
    exact EReal.neg_le_neg_iff.mpr h
  have h := congrFun (ascending_unique (order_monotone x) hm) i.rev
  rw [e]
  refine h.trans ?_
  show x (σ i.rev.rev).val = _
  rw [Fin.rev_rev]

end Cert.Sorting

end
-- ==== Proof.Stages.lean ====
module

public import proofs.«01_k».proof.Proof.Gen.KernelIdeal.Loops

/-!
# One stage of the sorting network on a chunk of 128 rows

A chunk is an array of 128 rows by 128 lanes. Every stage compares each row with the row at distance `J` and keeps the
smaller or the larger of the two. This file names the ways in which the kernel does that with array operations.
-/

@[expose] public section

noncomputable section

namespace Cert.Sorting

open Cert.KernelIdeal Idealize.ShloMosaic

variable {F : FTy → Type} [FloatOps F]

/-- An array of `a` groups of `b` rows. -/
abbrev T3 (a b : ℕ) : Shape := ⟨3, ![a, b, 128]⟩

/-- An array of `a` groups of `b` halves of `c` rows. -/
abbrev T4 (a b c : ℕ) : Shape := ⟨4, ![a, b, c, 128]⟩

theorem slices3 {a b c o : ℕ} (h : o + c ≤ b) : (T3 a b).Slices ![0, o, 0] (T3 a c) :=
  ⟨rfl, fun i => by
    match i with
    | 0 => exact (Nat.zero_add a).le
    | 1 => exact h
    | 2 => exact (Nat.zero_add 128).le⟩

theorem slices4 {a b c o : ℕ} (h : o < b) : (T4 a b c).Slices ![0, o, 0, 0] (T4 a 1 c) :=
  ⟨rfl, fun i => by
    match i with
    | 0 => exact (Nat.zero_add a).le
    | 1 => exact h
    | 2 => exact (Nat.zero_add c).le
    | 3 => exact (Nat.zero_add 128).le⟩

theorem joins3 {a b c : ℕ} (h : b + b = c) : Shape.Concatenates [T3 a b, T3 a b] (T3 a c) 1 := by
  refine ⟨le_rfl, fun s hs => ?_, ?_⟩
  · have : s = T3 a b := by simpa using hs
    subst this
    refine ⟨rfl, fun i hi => ?_⟩
    match i, hi with
    | 0, _ => rfl
    | 1, hi => exact absurd rfl hi
    | 2, _ => rfl
  · show b + (b + 0) = c
    omega

theorem joins4 {a c : ℕ} : Shape.Concatenates [T4 a 1 c, T4 a 1 c] (T4 a 2 c) 1 := by
  refine ⟨le_rfl, fun s hs => ?_, ?_⟩
  · have : s = T4 a 1 c := by simpa using hs
    subst this
    refine ⟨rfl, fun i hi => ?_⟩
    match i, hi with
    | 0, _ => rfl
    | 1, hi => exact absurd rfl hi
    | 2, _ => rfl
    | 3, _ => rfl
  · rfl

theorem rotates3 {a : ℕ} : (T3 a 8).Rotates 1 none := ⟨Nat.le_succ 2, by simp⟩

theorem spreads {a : ℕ} : S1x8x1.Broadcasts (T3 a 8) := by
  refine ⟨le_rfl, fun i => ?_⟩
  match i with
  | 0 => exact .inl rfl
  | 1 => exact .inr fun _ => rfl
  | 2 => exact .inl rfl

/-- Compare and exchange at distance `J`, on groups of `2 J` rows: the smaller of each pair in the first half (the
    larger where `desc`), the other one in the second half. -/
def farCE (desc : Bool) (a J K : ℕ) (h₀ : 0 + J ≤ K) (h₁ : J + J ≤ K) (h : J + J = K) (y : FVec F (T3 a K) .f32) :
    FVec F (T3 a K) .f32 :=
  let u := extractStridedSlice (T3 a J) ![0, 0, 0] y (slices3 h₀)
  let w := extractStridedSlice (T3 a J) ![0, J, 0] y (slices3 h₁)
  concatenate (T3 a K) 1
    [⟨T3 a J, bif desc then maximumf u w else minimumf u w⟩, ⟨T3 a J, bif desc then minimumf u w else maximumf u w⟩]
    (joins3 h)

/-- The rows of a group of eight whose bit `j` is clear. -/
def clearRows (j : BitVec 32) : IVec S1x8x1 1 :=
  cmpi .eq (andi (iota .tc S1x8x1 32 [1] (by decide)) (broadcast S1x8x1 j)) (broadcast S1x8x1 0#32)

/-- The rows of a group of eight whose bit `k` is set. -/
def setRows (k : BitVec 32) : IVec S1x8x1 1 :=
  cmpi .ne (andi (iota .tc S1x8x1 32 [1] (by decide)) (broadcast S1x8x1 k)) (broadcast S1x8x1 0#32)

/-- A choice of rows, for every group and every lane. -/
def everyGroup (a : ℕ) (c : IVec S1x8x1 1) : IVec (T3 a 8) 1 :=
  broadcastTo (T3 a 8) (shapeCast S1x8x1 c rfl) spreads

/-- Compare and exchange at distance `j < 8`, on groups of eight rows: the partner comes by turning each group. -/
def nearCE (desc : Bool) (a : ℕ) (j up down : BitVec 32) (z : FVec F (T3 a 8) .f32) : FVec F (T3 a 8) .f32 :=
  let rm := dynamicRotate 1 up none z rotates3
  let rp := dynamicRotate 1 down none z rotates3
  select (everyGroup a (clearRows j)) (bif desc then maximumf z rm else minimumf z rm)
    (bif desc then minimumf z rp else maximumf z rp)

/-- Compare and exchange at distance `j < 8`, the direction changing with bit `k < 8` of the row. -/
def turnCE (j k up down : BitVec 32) (z : FVec F (T3 16 8) .f32) : FVec F (T3 16 8) .f32 :=
  let q := select (everyGroup 16 (clearRows j)) (dynamicRotate 1 up none z rotates3) (dynamicRotate 1 down none z rotates3)
  select (everyGroup 16 (xori (clearRows j) (setRows k))) (minimumf z q) (maximumf z q)

/-- A stage done on another grouping of the rows. -/
def regrouped (n r m K : ℕ) (h : (T3 n r).ShapeCasts (T3 m K)) (h' : (T3 m K).ShapeCasts (T3 n r))
    (f : FVec F (T3 m K) .f32 → FVec F (T3 m K) .f32) (y : FVec F (T3 n r) .f32) : FVec F (T3 n r) .f32 :=
  shapeCast (T3 n r) (f (shapeCast (T3 m K) y h)) h'

/-- A stage done on the chunk as one group. -/
def whole (f : FVec F (T3 1 128) .f32 → FVec F (T3 1 128) .f32) (x : FVec F S128x128 .f32) : FVec F S128x128 .f32 :=
  shapeCast S128x128 (f (shapeCast (T3 1 128) x rfl)) rfl

/-- A stage done on groups of eight rows. -/
def byEight (f : FVec F (T3 16 8) .f32 → FVec F (T3 16 8) .f32) (x : FVec F S128x128 .f32) : FVec F S128x128 .f32 :=
  shapeCast S128x128 (f (shapeCast (T3 16 8) x rfl)) rfl

/-- A stage that treats the two halves of every `2 k` rows in its own way each. -/
def halves (a k : ℕ) (h : S128x128.ShapeCasts (T4 a 2 k)) (h' : (T4 a 2 k).ShapeCasts S128x128)
    (g : (T4 a 1 k).ShapeCasts (T3 a k)) (g' : (T3 a k).ShapeCasts (T4 a 1 k))
    (f₀ f₁ : FVec F (T3 a k) .f32 → FVec F (T3 a k) .f32) (x : FVec F S128x128 .f32) : FVec F S128x128 .f32 :=
  let y := shapeCast (T4 a 2 k) x h
  shapeCast S128x128 (concatenate (T4 a 2 k) 1
    [⟨T4 a 1 k, shapeCast (T4 a 1 k) (f₀ (shapeCast (T3 a k)
        (extractStridedSlice (T4 a 1 k) ![0, 0, 0, 0] y (slices4 (by decide))) g)) g'⟩,
     ⟨T4 a 1 k, shapeCast (T4 a 1 k) (f₁ (shapeCast (T3 a k)
        (extractStridedSlice (T4 a 1 k) ![0, 1, 0, 0] y (slices4 (by decide))) g)) g'⟩] joins4) h'

/-- The last seven stages of a level, all in one direction: distances 64 down to 1. -/
def mergeChunk (desc : Bool) (x : FVec F S128x128 .f32) : FVec F S128x128 .f32 :=
  let x := whole (farCE desc 1 64 128 (by decide) (by decide) rfl) x
  let x := whole (regrouped 1 128 2 64 rfl rfl (farCE desc 2 32 64 (by decide) (by decide) rfl)) x
  let x := whole (regrouped 1 128 4 32 rfl rfl (farCE desc 4 16 32 (by decide) (by decide) rfl)) x
  let x := whole (regrouped 1 128 8 16 rfl rfl (farCE desc 8 8 16 (by decide) (by decide) rfl)) x
  let x := whole (regrouped 1 128 16 8 rfl rfl (nearCE desc 16 4#32 4#32 4#32)) x
  let x := whole (regrouped 1 128 16 8 rfl rfl (nearCE desc 16 2#32 6#32 2#32)) x
  whole (regrouped 1 128 16 8 rfl rfl (nearCE desc 16 1#32 7#32 1#32)) x

/-- A stage at distance `j < 8` of a level with blocks of 8 or more rows. -/
def splitNear (a k : ℕ) (h : S128x128.ShapeCasts (T4 a 2 k)) (h' : (T4 a 2 k).ShapeCasts S128x128)
    (g : (T4 a 1 k).ShapeCasts (T3 a k)) (g' : (T3 a k).ShapeCasts (T4 a 1 k))
    (e : (T3 a k).ShapeCasts (T3 8 8)) (e' : (T3 8 8).ShapeCasts (T3 a k)) (j up down : BitVec 32) :
    FVec F S128x128 .f32 → FVec F S128x128 .f32 :=
  halves a k h h' g g' (regrouped a k 8 8 e e' (nearCE false 8 j up down)) (regrouped a k 8 8 e e' (nearCE true 8 j up down))

/-- The last three stages of such a level. -/
def splitTail (a k : ℕ) (h : S128x128.ShapeCasts (T4 a 2 k)) (h' : (T4 a 2 k).ShapeCasts S128x128)
    (g : (T4 a 1 k).ShapeCasts (T3 a k)) (g' : (T3 a k).ShapeCasts (T4 a 1 k))
    (e : (T3 a k).ShapeCasts (T3 8 8)) (e' : (T3 8 8).ShapeCasts (T3 a k)) (x : FVec F S128x128 .f32) :
    FVec F S128x128 .f32 :=
  splitNear a k h h' g g' e e' 1#32 7#32 1#32 (splitNear a k h h' g g' e e' 2#32 6#32 2#32
    (splitNear a k h h' g g' e e' 4#32 4#32 4#32 x))

/-- A stage at distance `J ≥ 8` of such a level. -/
def splitFar (a k m J K : ℕ) (h : S128x128.ShapeCasts (T4 a 2 k)) (h' : (T4 a 2 k).ShapeCasts S128x128)
    (g : (T4 a 1 k).ShapeCasts (T3 a k)) (g' : (T3 a k).ShapeCasts (T4 a 1 k))
    (e : (T3 a k).ShapeCasts (T3 m K)) (e' : (T3 m K).ShapeCasts (T3 a k)) (h₀ : 0 + J ≤ K) (h₁ : J + J ≤ K) (hJ : J + J = K) :
    FVec F S128x128 .f32 → FVec F S128x128 .f32 :=
  halves a k h h' g g' (regrouped a k m K e e' (farCE false m J K h₀ h₁ hJ)) (regrouped a k m K e e' (farCE true m J K h₀ h₁ hJ))

/-- The first stage of such a level, at distance half a block. -/
def splitFirst (a k J : ℕ) (h : S128x128.ShapeCasts (T4 a 2 k)) (h' : (T4 a 2 k).ShapeCasts S128x128)
    (g : (T4 a 1 k).ShapeCasts (T3 a k)) (g' : (T3 a k).ShapeCasts (T4 a 1 k)) (h₀ : 0 + J ≤ k) (h₁ : J + J ≤ k) (hJ : J + J = k) :
    FVec F S128x128 .f32 → FVec F S128x128 .f32 :=
  halves a k h h' g g' (farCE false a J k h₀ h₁ hJ) (farCE true a J k h₀ h₁ hJ)

/-- The first six levels within a chunk: blocks of 64 rows sorted up and down in turn. -/
def sortBlocks (x : FVec F S128x128 .f32) : FVec F S128x128 .f32 :=
  let x := byEight (turnCE 1#32 2#32 7#32 1#32) x
  let x := byEight (turnCE 2#32 4#32 6#32 2#32) x
  let x := byEight (turnCE 1#32 4#32 7#32 1#32) x
  let x := halves 8 8 rfl rfl rfl rfl (nearCE false 8 4#32 4#32 4#32) (nearCE true 8 4#32 4#32 4#32) x
  let x := halves 8 8 rfl rfl rfl rfl (nearCE false 8 2#32 6#32 2#32) (nearCE true 8 2#32 6#32 2#32) x
  let x := halves 8 8 rfl rfl rfl rfl (nearCE false 8 1#32 7#32 1#32) (nearCE true 8 1#32 7#32 1#32) x
  let x := splitFirst 4 16 8 rfl rfl rfl rfl (by decide) (by decide) rfl x
  let x := splitTail 4 16 rfl rfl rfl rfl rfl rfl x
  let x := splitFirst 2 32 16 rfl rfl rfl rfl (by decide) (by decide) rfl x
  let x := splitFar 2 32 4 8 16 rfl rfl rfl rfl rfl rfl (by decide) (by decide) rfl x
  let x := splitTail 2 32 rfl rfl rfl rfl rfl rfl x
  let x := splitFirst 1 64 32 rfl rfl rfl rfl (by decide) (by decide) rfl x
  let x := splitFar 1 64 2 16 32 rfl rfl rfl rfl rfl rfl (by decide) (by decide) rfl x
  let x := splitFar 1 64 4 8 16 rfl rfl rfl rfl rfl rfl (by decide) (by decide) rfl x
  splitTail 1 64 rfl rfl rfl rfl rfl rfl x

/-- A chunk sorted, up or down: the first six levels, then the seventh in one direction. -/
def sortChunk (desc : Bool) (x : FVec F S128x128 .f32) : FVec F S128x128 .f32 :=
  mergeChunk desc (sortBlocks x)

/-- A chunk as it lies in the block. -/
def toBlock (x : FVec F S128x128 .f32) : FVec F S1x1x128x128 .f32 := shapeCast S1x1x128x128 x rfl

/-- A chunk as it is loaded from the block. -/
def ofBlock (x : Vec F S1x1x128x128 .f32) : FVec F S128x128 .f32 := shapeCast S128x128 x rfl

end Cert.Sorting

end
-- ==== Proof.Groups.lean ====
module

public import proofs.«01_k».proof.Proof.Stages
public import Idealize.ShloMosaic.Lib.WritesUnit

/-!
# Groups of chunks

A merge of `2 ^ p` chunks: `p` stages across the chunks (`across`, `acrossAll`), then the last seven stages on each chunk;
the chunks are read from a buffer (`chunksAt`) and stored back in their places (`stored`). The float operations are
arbitrary.
-/

@[expose] public section

noncomputable section

namespace Cert.Sorting

open Cert.KernelIdeal Idealize.ShloMosaic

variable {F : FTy → Type} [FloatOps F]

/-- Compare and exchange chunk by chunk: chunk `i` with chunk `i + dist`, or `i - dist`. -/
def across (dist : ℕ) (desc : Bool) (X : ℕ → FVec F S128x128 .f32) (i : ℕ) : FVec F S128x128 .f32 :=
  bif Nat.beq (i / dist % 2) 0 then bif desc then maximumf (X i) (X (i + dist)) else minimumf (X i) (X (i + dist))
  else bif desc then minimumf (X (i - dist)) (X i) else maximumf (X (i - dist)) (X i)

/-- The stages across `2 ^ p` chunks, the widest first. -/
def acrossAll (desc : Bool) : ℕ → (ℕ → FVec F S128x128 .f32) → ℕ → FVec F S128x128 .f32
  | 0, X => X
  | p + 1, X => acrossAll desc p (across (2 ^ p) desc X)

/-- A merge of `2 ^ p` chunks. -/
def mergeGroup (desc : Bool) (p : ℕ) (X : ℕ → FVec F S128x128 .f32) (i : ℕ) : FVec F S128x128 .f32 :=
  mergeChunk desc (acrossAll desc p X i)

/-- Two chunks sorted, one up and one down, then merged. -/
def sortPair (desc : Bool) (X : ℕ → FVec F S128x128 .f32) (i : ℕ) : FVec F S128x128 .f32 :=
  mergeGroup desc 1 (fun i => bif Nat.beq i 0 then sortChunk false (X 0) else sortChunk true (X 1)) i

theorem spreadsRow : S1x128.Broadcasts S128x128 := by
  refine ⟨le_rfl, fun i => ?_⟩
  match i with
  | 0 => exact .inl rfl
  | 1 => exact .inr fun _ => rfl

/-- A chunk times a row of signs. -/
def signed (g : FVec F S1x128 .f32) (x : FVec F S128x128 .f32) : FVec F S128x128 .f32 :=
  mulf x (broadcastTo S128x128 g spreadsRow)

/-- Offsets of chunks inside a block. -/
abbrev Fit (off : Fin 4 → ℕ) : Prop := ∀ a, off a + S1x1x128x128.size a ≤ S1x1x4096x128.size a

/-- The chunk a buffer holds at given offsets. -/
def chunkAt {κ : Kind} {sp : Space} (v : View sig κ sp S1x1x4096x128 .f32) (f : v.ty.Contents (Elt F)) (off : Fin 4 → ℕ) (h : Fit off) :
    FVec F S128x128 .f32 :=
  ofBlock (v.readAt (Elt F) (Rect.unit (s := S1x1x4096x128) off S1x1x128x128.size h).toLoadRect f)

/-- The first `n` chunks a buffer holds at given offsets. -/
def chunksAt {κ : Kind} {sp : Space} (v : View sig κ sp S1x1x4096x128 .f32) (f : v.ty.Contents (Elt F)) (off : ℕ → Fin 4 → ℕ) (n : ℕ)
    (h : ∀ i, i < n → Fit (off i)) (i : ℕ) : FVec F S128x128 .f32 :=
  if hi : i < n then chunkAt v f (off i) (h i hi) else broadcast S128x128 (Scalar.ofBits .f32 0#32)

/-- The store of one chunk at given offsets. -/
def storeAt (off : Fin 4 → ℕ) (h : Fit off) (y : FVec F S128x128 .f32) : View.Piece (Elt F) S1x1x4096x128 .f32 :=
  ⟨Rect.unit (s := S1x1x4096x128) off S1x1x128x128.size h, toBlock y⟩

/-- The stores of `n` chunks, the last one first, on top of earlier stores. -/
def stored (off : ℕ → Fin 4 → ℕ) (y : ℕ → FVec F S128x128 .f32) (L : List (View.Piece (Elt F) S1x1x4096x128 .f32)) :
    (n : ℕ) → (∀ i, i < n → Fit (off i)) → List (View.Piece (Elt F) S1x1x4096x128 .f32)
  | 0, _ => L
  | n + 1, h => storeAt (off n) (h n (Nat.lt_succ_self n)) (y n) :: stored off y L n fun i hi => h i (Nat.lt_succ_of_lt hi)

end Cert.Sorting

end
-- ==== Proof.Trips.lean ====
module

public import proofs.«01_k».proof.Proof.Groups
public import proofs.«01_k».proof.Proof.Gen.KernelIdeal.Loops
import all proofs.«01_k».proof.Proof.Gen.KernelIdeal.Loops

/-!
# What one trip of each loop stores

The first two loops sort pairs of chunks, up and down; the next two merge groups of four chunks, the last two groups of
eight.
-/

@[expose] public section

set_option maxRecDepth 16384
set_option maxHeartbeats 1000000

noncomputable section

namespace Cert.Sorting

open Cert.KernelIdeal Cert.KernelIdeal.Gen
open Idealize.ShloMosaic Idealize.ShloMosaic.TcCoe

variable {F : FTy → Type} [FloatOps F]

/-- The signs, from the row of the mask the kernel reads. -/
def signsOf (v0 : Vec F S1x128 .i32) : FVec F S1x128 .f32 := k0_pay613 v0

/-- The offsets of the first pair of loop 1's trip `k`. -/
abbrev pair11 (k : Fin k0_t1_loop.trips) (i : ℕ) : Fin 4 → ℕ := bif Nat.beq i 0 then k0_off1 k else k0_off2 k

theorem fit11 (k : Fin k0_t1_loop.trips) : ∀ i, i < 2 → Fit (pair11 k i)
  | 0, _ => k0_off1_inb k
  | 1, _ => k0_off2_inb k

/-- The offsets of the second pair of loop 1's trip `k`. -/
abbrev pair12 (k : Fin k0_t1_loop.trips) (i : ℕ) : Fin 4 → ℕ := bif Nat.beq i 0 then k0_off3 k else k0_off4 k

theorem fit12 (k : Fin k0_t1_loop.trips) : ∀ i, i < 2 → Fit (pair12 k i)
  | 0, _ => k0_off3_inb k
  | 1, _ => k0_off4_inb k

/-- The offsets of the first pair of loop 2's trip `k`. -/
abbrev pair21 (k : Fin k0_t2_loop.trips) (i : ℕ) : Fin 4 → ℕ := bif Nat.beq i 0 then k0_off5 k 1#32 else k0_off6 k 1#32

theorem fit21 (k : Fin k0_t2_loop.trips) : ∀ i, i < 2 → Fit (pair21 k i)
  | 0, _ => k0_off5_inb k 0
  | 1, _ => k0_off6_inb k 0

/-- The offsets of the second pair of loop 2's trip `k`. -/
abbrev pair22 (k : Fin k0_t2_loop.trips) (i : ℕ) : Fin 4 → ℕ := bif Nat.beq i 0 then k0_off5 k 3#32 else k0_off6 k 3#32

theorem fit22 (k : Fin k0_t2_loop.trips) : ∀ i, i < 2 → Fit (pair22 k i)
  | 0, _ => k0_off5_inb k 1
  | 1, _ => k0_off6_inb k 1

/-- The offsets of loop 3's trip `k`. -/
abbrev group3 (k : Fin k0_t3_loop.trips) (i : ℕ) : Fin 4 → ℕ := k0_off7 k (BitVec.ofNat 32 (128 * i))

theorem fit3 (k : Fin k0_t3_loop.trips) (i : ℕ) (hi : i < 4) : Fit (group3 k i) := k0_off7_inb k ⟨i, hi⟩

/-- The offsets of loop 4's trip `k`. -/
abbrev group4 (k : Fin k0_t4_loop.trips) (i : ℕ) : Fin 4 → ℕ := k0_off8 k (BitVec.ofNat 32 (128 * i))

theorem fit4 (k : Fin k0_t4_loop.trips) (i : ℕ) (hi : i < 4) : Fit (group4 k i) := k0_off8_inb k ⟨i, hi⟩

/-- The offsets of loop 5's trip `k`. -/
abbrev group5 (k : Fin k0_t5_loop.trips) (i : ℕ) : Fin 4 → ℕ := k0_off9 k (BitVec.ofNat 32 (128 * i))

theorem fit5 (k : Fin k0_t5_loop.trips) (i : ℕ) (hi : i < 8) : Fit (group5 k i) := k0_off9_inb k ⟨i, hi⟩

/-- The offsets of loop 6's trip `k`. -/
abbrev group6 (k : Fin k0_t6_loop.trips) (i : ℕ) : Fin 4 → ℕ := k0_off10 k (BitVec.ofNat 32 (128 * i))

theorem fit6 (k : Fin k0_t6_loop.trips) (i : ℕ) (hi : i < 8) : Fit (group6 k i) := k0_off10_inb k ⟨i, hi⟩

section

variable (𝒱 : Variants) (c : Dev nD) (bd : Option 𝒱.V) (i : grid0.Coords)
    (arg2 : Memref sig .tc .vmem S1x1x4096x128 .f32) (harg2 : arg2.IsWhole) (arg3 : Memref sig .tc .vmem S8x128 .i32)
    (harg3 : arg3.IsWhole) (arg4 : Memref sig .tc .vmem S1x1x4096x128 .f32) (harg4 : arg4.IsWhole)

theorem trip1 (v0 : Vec F S1x128 .i32) (f : BufTy.Contents (Elt F) arg2.view.ty) (k : Fin k0_t1_loop.trips) :
    (trip_k0_t1 (F := F) 𝒱 c bd i arg2 harg2 arg3 harg3 arg4 harg4 v0 f k).1
      = stored (pair12 k) (sortPair false fun i => signed (signsOf v0) (chunksAt arg2.view f (pair12 k) 2 (fit12 k) i))
          (stored (pair11 k) (sortPair false fun i => signed (signsOf v0) (chunksAt arg2.view f (pair11 k) 2 (fit11 k) i))
            [] 2 (fit11 k)) 2 (fit12 k) := by
  unfold trip_k0_t1
  rfl

theorem trip2 (v0 : Vec F S1x128 .i32) (f : BufTy.Contents (Elt F) arg2.view.ty) (k : Fin k0_t2_loop.trips) :
    (trip_k0_t2 (F := F) 𝒱 c bd i arg2 harg2 arg3 harg3 arg4 harg4 v0 f k).1
      = stored (pair22 k) (sortPair true fun i => signed (signsOf v0) (chunksAt arg2.view f (pair22 k) 2 (fit22 k) i))
          (stored (pair21 k) (sortPair true fun i => signed (signsOf v0) (chunksAt arg2.view f (pair21 k) 2 (fit21 k) i))
            [] 2 (fit21 k)) 2 (fit22 k) := by
  unfold trip_k0_t2
  rfl

theorem trip3 (f : BufTy.Contents (Elt F) arg4.view.ty) (k : Fin k0_t3_loop.trips) :
    (trip_k0_t3 (F := F) 𝒱 c bd i arg2 harg2 arg3 harg3 arg4 harg4 k).1 f
      = stored (group3 k) (mergeGroup false 2 (chunksAt arg4.view f (group3 k) 4 (fit3 k))) [] 4 (fit3 k) := by
  unfold trip_k0_t3
  rfl

theorem trip4 (f : BufTy.Contents (Elt F) arg4.view.ty) (k : Fin k0_t4_loop.trips) :
    (trip_k0_t4 (F := F) 𝒱 c bd i arg2 harg2 arg3 harg3 arg4 harg4 k).1 f
      = stored (group4 k) (mergeGroup true 2 (chunksAt arg4.view f (group4 k) 4 (fit4 k))) [] 4 (fit4 k) := by
  unfold trip_k0_t4
  rfl

theorem trip5 (f : BufTy.Contents (Elt F) arg4.view.ty) (k : Fin k0_t5_loop.trips) :
    (trip_k0_t5 (F := F) 𝒱 c bd i arg2 harg2 arg3 harg3 arg4 harg4 k).1 f
      = stored (group5 k) (mergeGroup false 3 (chunksAt arg4.view f (group5 k) 8 (fit5 k))) [] 8 (fit5 k) := by
  unfold trip_k0_t5
  rfl

theorem trip6 (f : BufTy.Contents (Elt F) arg4.view.ty) (k : Fin k0_t6_loop.trips) :
    (trip_k0_t6 (F := F) 𝒱 c bd i arg2 harg2 arg3 harg3 arg4 harg4 k).1 f
      = stored (group6 k) (mergeGroup true 3 (chunksAt arg4.view f (group6 k) 8 (fit6 k))) [] 8 (fit6 k) := by
  unfold trip_k0_t6
  rfl

end

end Cert.Sorting

end
-- ==== Proof.BodyRun.lean ====
module

public import proofs.«01_k».proof.Proof.Gen.KernelIdeal.Frame
public import proofs.«01_k».proof.Proof.Gen.KernelIdeal.Loops

@[expose] public section

set_option maxRecDepth 16384

noncomputable section

namespace Cert.Sorting

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body, run once on whole staging buffers: the values it leaves in the output buffer, given what the three
    buffers hold before (the run finds them), with the triple that says so. -/
@[irreducible] def bodyRun (c : Dev nD) (i : grid0.Coords) (arg2 : Memref sig .tc .vmem S1x1x4096x128 .f32) (harg2 : arg2.IsWhole) (arg3 : Memref sig .tc .vmem S8x128 .i32) (harg3 : arg3.IsWhole) (arg4 : Memref sig .tc .vmem S1x1x4096x128 .f32) (harg4 : arg4.IsWhole)
    (x0 : Vec F S1x1x4096x128 .f32) (x1 : Vec F S8x128 .i32) :
    { R : BufTy.Contents (Elt F) arg4.view.ty → BufTy.Contents (Elt F) arg4.view.ty //
      ∀ (E : Set ℕ) (f2 : BufTy.Contents (Elt F) arg4.view.ty) (K : PUnit → sProp 𝕄),
        iprop(owns (c : Thread nD τ) arg2 fullShare x0 ∗ owns (c : Thread nD τ) arg3 fullShare x1
            ∗ (arg4.view.loc (c : Thread nD τ) ↦[arg4.view.set]{fullShare} f2)
            ∗ (iprop(owns (c : Thread nD τ) arg2 fullShare x0 ∗ owns (c : Thread nD τ) arg3 fullShare x1
                ∗ (arg4.view.loc (c : Thread nD τ) ↦[arg4.view.set]{fullShare} (R f2))) -∗ K ⟨⟩))
          ⊢ wp frame (wpE (defs₀ (F := F)) Variants.none c none) E (cc0__bitonic_kernel i arg2 harg2 arg3 harg3 arg4 harg4) K } := by
  refine ⟨?_, fun E f2 K => ?run⟩
  case run =>
    simp only [cc0__bitonic_kernel_eq_skeleton]; unfold cc0__bitonic_kernel_skel
    simp only [k0_part293_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part294_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton]
    unfold owns
    iintro ⟨⟨%f0, %hf0, H0⟩, ⟨%f1, %hf1, H1⟩, H2, Hk⟩
    obtain rfl := harg2.eq_unread hf0; obtain rfl := harg3.eq_unread hf1
    sl_exec
    sl_step
    iapply Hk
    isplitl [H0]
    · iexists _; isplitr; · ipureintro; exact harg2.read_unread _
      iexact H0
    isplitl [H1]
    · iexists _; isplitr; · ipureintro; exact harg3.read_unread _
      iexact H1
    iexact H2

end Cert.Sorting

end
-- ==== Proof.BodyStores.lean ====
module

public import proofs.«01_k».proof.Proof.Trips
public import proofs.«01_k».proof.Proof.BodyRun
import all proofs.«01_k».proof.Proof.BodyRun

/-!
# What the body stores

The stores of the whole body in order, newest first: the six loops, then the merges of sixteen chunks, up and down, then
the last merge, of all the chunks, each chunk times the signs.
-/

@[expose] public section

set_option maxRecDepth 16384
set_option maxHeartbeats 4000000

noncomputable section

namespace Cert.Sorting

open Cert.KernelIdeal Cert.KernelIdeal.Gen
open Idealize.ShloMosaic Idealize.ShloMosaic.TcCoe

variable {F : FTy → Type} [FloatOps F]

/-- The offsets of chunk `i`. -/
abbrev offset (i : ℕ) : Fin 4 → ℕ := ![0, 0, 128 * i, 0]

theorem fitOffset (i : ℕ) (hi : i < 32) : Fit (offset i) := fun a => by
  match a with
  | 0 => exact Nat.le_refl 1
  | 1 => exact Nat.le_refl 1
  | 2 => show 128 * i + 128 ≤ 4096; omega
  | 3 => exact Nat.le_refl 128

theorem fitLow (i : ℕ) (hi : i < 16) : Fit (offset i) := fitOffset i (by omega)

theorem fitHigh (i : ℕ) (hi : i < 16) : Fit (offset (16 + i)) := fitOffset _ (by omega)

variable (c : Dev nD) (i : grid0.Coords)
    (arg2 : Memref sig .tc .vmem S1x1x4096x128 .f32) (harg2 : arg2.IsWhole) (arg3 : Memref sig .tc .vmem S8x128 .i32)
    (harg3 : arg3.IsWhole) (arg4 : Memref sig .tc .vmem S1x1x4096x128 .f32) (harg4 : arg4.IsWhole) (x0 : Vec F S1x1x4096x128 .f32) (x1 : Vec F S8x128 .i32)
  (f : BufTy.Contents (Elt F) arg4.view.ty)

/-- The row of the mask the kernel reads. -/
abbrev maskRow : Vec F S1x128 .i32 :=
  View.readAt (Elt F) arg3.view (Rect.unit (s := S8x128) ![0, 0] S1x128.size inb_S8x128_S1x128_0_0).toLoadRect (harg3.unread x1)

/-- The stores of the two loops that sort pairs of chunks. -/
abbrev pairs : List (View.Piece (Elt F) S1x1x4096x128 .f32) :=
  pb_k0_t2 Variants.none c none i arg2 harg2 arg3 harg3 arg4 harg4 (maskRow arg3 harg3 x1) (harg2.unread x0) k0_t2_loop.trips
    ++ pb_k0_t1 Variants.none c none i arg2 harg2 arg3 harg3 arg4 harg4 (maskRow arg3 harg3 x1) (harg2.unread x0) k0_t1_loop.trips

/-- The stores up to the merges of four chunks, up, … -/
abbrev fours' : List (View.Piece (Elt F) S1x1x4096x128 .f32) :=
  pb_k0_t3 Variants.none c none i arg2 harg2 arg3 harg3 arg4 harg4
    (arg4.view.writes (Elt F) f (pairs c i arg2 harg2 arg3 harg3 arg4 harg4 x0 x1)) k0_t3_loop.trips ++ pairs c i arg2 harg2 arg3 harg3 arg4 harg4 x0 x1

/-- … and down. -/
abbrev fours : List (View.Piece (Elt F) S1x1x4096x128 .f32) :=
  pb_k0_t4 Variants.none c none i arg2 harg2 arg3 harg3 arg4 harg4
    (arg4.view.writes (Elt F) f (fours' c i arg2 harg2 arg3 harg3 arg4 harg4 x0 x1 f)) k0_t4_loop.trips ++ fours' c i arg2 harg2 arg3 harg3 arg4 harg4 x0 x1 f

/-- The stores up to the merges of eight chunks, up, … -/
abbrev eights' : List (View.Piece (Elt F) S1x1x4096x128 .f32) :=
  pb_k0_t5 Variants.none c none i arg2 harg2 arg3 harg3 arg4 harg4
    (arg4.view.writes (Elt F) f (fours c i arg2 harg2 arg3 harg3 arg4 harg4 x0 x1 f)) k0_t5_loop.trips ++ fours c i arg2 harg2 arg3 harg3 arg4 harg4 x0 x1 f

/-- … and down. -/
abbrev eights : List (View.Piece (Elt F) S1x1x4096x128 .f32) :=
  pb_k0_t6 Variants.none c none i arg2 harg2 arg3 harg3 arg4 harg4
    (arg4.view.writes (Elt F) f (eights' c i arg2 harg2 arg3 harg3 arg4 harg4 x0 x1 f)) k0_t6_loop.trips ++ eights' c i arg2 harg2 arg3 harg3 arg4 harg4 x0 x1 f

/-- The stores up to the merge of the first sixteen chunks, up, … -/
def sixteens' : List (View.Piece (Elt F) S1x1x4096x128 .f32) :=
  stored offset (mergeGroup false 4 (chunksAt arg4.view (arg4.view.writes (Elt F) f (eights c i arg2 harg2 arg3 harg3 arg4 harg4 x0 x1 f)) offset 16 fitLow))
    (eights c i arg2 harg2 arg3 harg3 arg4 harg4 x0 x1 f) 16 fitLow

/-- … and of the last sixteen, down. -/
def sixteens : List (View.Piece (Elt F) S1x1x4096x128 .f32) :=
  stored (fun j => offset (16 + j)) (mergeGroup true 4 (chunksAt arg4.view (arg4.view.writes (Elt F) f
      (sixteens' c i arg2 harg2 arg3 harg3 arg4 harg4 x0 x1 f)) (fun j => offset (16 + j)) 16 fitHigh))
    (sixteens' c i arg2 harg2 arg3 harg3 arg4 harg4 x0 x1 f) 16 fitHigh

/-- All the stores. -/
def allStores : List (View.Piece (Elt F) S1x1x4096x128 .f32) :=
  stored offset (fun j => signed (signsOf (maskRow arg3 harg3 x1)) (mergeGroup false 5 (chunksAt arg4.view
      (arg4.view.writes (Elt F) arg4.view.junk (sixteens c i arg2 harg2 arg3 harg3 arg4 harg4 x0 x1 f)) offset 32 fitOffset) j))
    (sixteens c i arg2 harg2 arg3 harg3 arg4 harg4 x0 x1 f) 32 fitOffset

/-- The body leaves in its output what these stores leave there. -/
theorem bodyRun_eq : (bodyRun c i arg2 harg2 arg3 harg3 arg4 harg4 x0 x1).1 f = arg4.view.writes (Elt F) f (allStores c i arg2 harg2 arg3 harg3 arg4 harg4 x0 x1 f) := by
  unfold bodyRun
  rfl

end Cert.Sorting

end
-- ==== Proof.Flat.lean ====
module

public import proofs.«01_k».proof.Proof.Stages
public import proofs.«01_k».proof.Proof.Column
public import Idealize.ShloMosaic.Lib.KernelVsHost
public import Idealize.ShloMosaic.Lib.Pipeline.Value
public import Idealize.ShloMosaic.PureOps.Ideal

/-!
# What the stages of a chunk compute

The rows of a chunk keep their order however they are grouped: an array's row is its row-major position divided by the
128 lanes. `Flat x φ` says that `x` holds `φ d r` in lane `d` of row `r`. Every way of comparing and exchanging then is the
column's stage `stg`, in every lane.
-/

@[expose] public section

noncomputable section

namespace Cert.Sorting

open Cert.KernelIdeal Idealize.ShloMosaic

variable {α : Type} {s t : Shape}

/-- Lane `d` of row `r` of the array holds `φ d r`. -/
def Flat (x : s.Idx → α) (φ : ℕ → ℕ → α) : Prop :=
  ∀ j : s.Idx, x j = φ ((s.rowMajor j).val % 128) ((s.rowMajor j).val / 128)

theorem Flat.congr {x : s.Idx → α} {φ ψ : ℕ → ℕ → α} (h : Flat x φ) (hφ : ∀ d r, r < s.numel / 128 → φ d r = ψ d r)
    (hs : 128 ∣ s.numel) : Flat x ψ := fun j => by
  rw [h j]
  exact hφ _ _ (Nat.div_lt_div_of_lt_of_dvd hs (s.rowMajor j).isLt)

/-- Grouping the rows in another way changes nothing. -/
theorem Flat.cast {x : s.Idx → α} {φ : ℕ → ℕ → α} (hx : Flat x φ) (h : s.ShapeCasts t) : Flat (shapeCast t x h) φ := fun j => by
  unfold shapeCast
  rw [hx, Shape.rowMajor_reshapeEquiv]

theorem lanes (A : ℕ) (d : ℕ) (h : d < 128) : (A * 128 + d) % 128 = d ∧ (A * 128 + d) / 128 = A := by omega

theorem pos3 {a b : ℕ} (j : (T3 a b).Idx) : ((T3 a b).rowMajor j).val % 128 = (j 2).val
    ∧ ((T3 a b).rowMajor j).val / 128 = (j 0).val * b + (j 1).val := by
  rw [Shape.rowMajor_val_three]
  exact lanes _ _ (j 2).isLt

theorem pos4 {a b c : ℕ} (j : (T4 a b c).Idx) : ((T4 a b c).rowMajor j).val % 128 = (j 3).val
    ∧ ((T4 a b c).rowMajor j).val / 128 = ((j 0).val * b + (j 1).val) * c + (j 2).val := by
  rw [Shape.rowMajor_val_four]
  exact lanes _ _ (j 3).isLt

/-- Group and row within the group. -/
theorem flat3 {a b : ℕ} {x : (T3 a b).Idx → α} {φ : ℕ → ℕ → α} :
    Flat x φ ↔ ∀ j : (T3 a b).Idx, x j = φ (j 2).val ((j 0).val * b + (j 1).val) :=
  forall_congr' fun j => by rw [(pos3 j).1, (pos3 j).2]

theorem flat4 {a b c : ℕ} {x : (T4 a b c).Idx → α} {φ : ℕ → ℕ → α} :
    Flat x φ ↔ ∀ j : (T4 a b c).Idx, x j = φ (j 3).val (((j 0).val * b + (j 1).val) * c + (j 2).val) :=
  forall_congr' fun j => by rw [(pos4 j).1, (pos4 j).2]

theorem flat2 {x : S128x128.Idx → α} {φ : ℕ → ℕ → α} :
    Flat x φ ↔ ∀ j : S128x128.Idx, x j = φ (j 1).val (j 0).val :=
  forall_congr' fun j => by
    have h : (S128x128.rowMajor j).val = (j 0).val * 128 + (j 1).val := Shape.rowMajor_val_two j
    rw [h, (lanes _ _ (j 1).isLt).1, (lanes _ _ (j 1).isLt).2]

/-- An index of an array of grouped rows. -/
def ix3 {a b : ℕ} (i r d : ℕ) (hi : i < a) (hr : r < b) (hd : d < 128) : (T3 a b).Idx := fun
  | 0 => ⟨i, hi⟩ | 1 => ⟨r, hr⟩ | 2 => ⟨d, hd⟩

/-- An index of an array of grouped halves. -/
def ix4 {a b c : ℕ} (i h r d : ℕ) (hi : i < a) (hh : h < b) (hr : r < c) (hd : d < 128) : (T4 a b c).Idx := fun
  | 0 => ⟨i, hi⟩ | 1 => ⟨h, hh⟩ | 2 => ⟨r, hr⟩ | 3 => ⟨d, hd⟩

theorem div_mod_of_lt {i k c : ℕ} (h : c < k) : (i * k + c) / k = i ∧ (i * k + c) % k = c := by
  have hk : 0 < k := Nat.lt_of_le_of_lt c.zero_le h
  constructor
  · rw [Nat.add_comm, Nat.add_mul_div_right _ _ hk, Nat.div_eq_of_lt h, Nat.zero_add]
  · rw [Nat.add_comm, Nat.add_mul_mod_self_right, Nat.mod_eq_of_lt h]

/-- Rows `o`, … of every group. -/
theorem slice3_apply {a b c o : ℕ} {y : (T3 a b).Idx → α} {φ : ℕ → ℕ → α} (hy : Flat y φ) (h : o + c ≤ b) (j : (T3 a c).Idx) :
    extractStridedSlice (T3 a c) ![0, o, 0] y (slices3 h) j = φ (j 2).val ((j 0).val * b + (o + (j 1).val)) := by
  unfold extractStridedSlice
  rw [flat3.1 hy]
  have h0 : 0 + (j 0).val = (j 0).val := Nat.zero_add _
  have h2 : 0 + (j 2).val = (j 2).val := Nat.zero_add _
  exact (congrArg₂ φ h2 (congrArg (fun n => n * b + (o + (j 1).val)) h0))

theorem flat_slice4 {a k b : ℕ} {y : (T4 a 2 k).Idx → α} {φ : ℕ → ℕ → α} (hy : Flat y φ) (h : b < 2) :
    Flat (extractStridedSlice (T4 a 1 k) ![0, b, 0, 0] y (slices4 h)) fun d r => φ d (r / k * (2 * k) + (b * k + r % k)) := by
  rw [flat4]
  intro j
  unfold extractStridedSlice
  rw [flat4.1 hy]
  have h0 : 0 + (j 0).val = (j 0).val := Nat.zero_add _
  have h2 : 0 + (j 2).val = (j 2).val := Nat.zero_add _
  have h3 : 0 + (j 3).val = (j 3).val := Nat.zero_add _
  have h1 : (j 1).val = 0 := Nat.lt_one_iff.1 (j 1).isLt
  have hc := div_mod_of_lt (i := (j 0).val) (show (j 2).val < k from (j 2).isLt)
  show φ (0 + (j 3).val) (((0 + (j 0).val) * 2 + (b + (j 1).val)) * k + (0 + (j 2).val)) = _
  rw [h0, h2, h3, h1, Nat.add_zero, Nat.mul_one, Nat.add_zero, hc.1, hc.2]
  congr 1
  rw [Nat.add_mul, Nat.mul_assoc, Nat.add_assoc]

/-- The two halves side by side again. -/
theorem flat_join4 {a k : ℕ} {x₀ x₁ : (T4 a 1 k).Idx → α} {φ₀ φ₁ φ : ℕ → ℕ → α} (h₀ : Flat x₀ φ₀) (h₁ : Flat x₁ φ₁)
    (e₀ : ∀ d i r, r < k → φ₀ d (i * k + r) = φ d (i * (2 * k) + r)) (e₁ : ∀ d i r, r < k → φ₁ d (i * k + r) = φ d (i * (2 * k) + (k + r))) :
    Flat (concatenate (T4 a 2 k) 1 [⟨T4 a 1 k, x₀⟩, ⟨T4 a 1 k, x₁⟩] joins4) φ := by
  rw [flat4]
  intro j
  have hj : (j 1).val < 2 := (j 1).isLt
  by_cases h : (j 1).val = 0
  · rw [concatenate_pair_apply_left 1 x₀ x₁ joins4 j rfl
      (ix4 (j 0).val 0 (j 2).val (j 3).val (j 0).isLt Nat.zero_lt_one (j 2).isLt (j 3).isLt) (by
        intro b
        match b with
        | 0 => rfl
        | 1 => exact h.symm
        | 2 => rfl
        | 3 => rfl), flat4.1 h₀, h]
    show φ₀ (j 3).val (((j 0).val * 1 + 0) * k + (j 2).val) = _
    rw [Nat.mul_one, Nat.add_zero, e₀ _ _ _ (j 2).isLt, Nat.add_zero, Nat.mul_assoc]
  · have h1 : (j 1).val = 1 := by omega
    rw [concatenate_pair_apply_right 1 x₀ x₁ joins4 j rfl rfl
      (ix4 (j 0).val 0 (j 2).val (j 3).val (j 0).isLt Nat.zero_lt_one (j 2).isLt (j 3).isLt) (by
        intro b hb
        match b, hb with
        | 0, _ => rfl
        | 1, hb => exact absurd rfl hb
        | 2, _ => rfl
        | 3, _ => rfl) h1.symm, flat4.1 h₁, h1]
    show φ₁ (j 3).val (((j 0).val * 1 + 0) * k + (j 2).val) = _
    rw [Nat.mul_one, Nat.add_zero, e₁ _ _ _ (j 2).isLt, Nat.add_mul, Nat.one_mul, Nat.mul_assoc, Nat.add_assoc]

/-- Far compare and exchange is the stage. -/
theorem flat_farCE (desc : Bool) {a J K : ℕ} {h₀ : 0 + J ≤ K} {h₁ : J + J ≤ K} (h : J + J = K) {y : FVec Ideal (T3 a K) .f32}
    {φ : ℕ → ℕ → EReal} (hy : Flat y φ) : Flat (farCE desc a J K h₀ h₁ h y) fun d => stg J (fun _ => desc) (φ d) := by
  rw [flat3]
  intro j
  have hj : (j 1).val < K := (j 1).isLt
  unfold farCE
  subst h
  have hrow : ∀ r < J, ((j 0).val * (J + J) + r) / J % 2 = 0 := fun r hr => by
    rw [show (j 0).val * (J + J) + r = ((j 0).val * 2) * J + r by rw [← Nat.two_mul, Nat.mul_assoc], (div_mod_of_lt hr).1,
      Nat.mul_mod_left]
  have hrow' : ∀ r < J, ((j 0).val * (J + J) + (J + r)) / J % 2 = 1 := fun r hr => by
    rw [show (j 0).val * (J + J) + (J + r) = ((j 0).val * 2 + 1) * J + r by
        rw [Nat.add_mul, Nat.mul_assoc, Nat.two_mul, Nat.one_mul, Nat.add_assoc], (div_mod_of_lt hr).1]
    omega
  by_cases hlt : (j 1).val < J
  · rw [concatenate_pair_apply_left 1 _ _ (joins3 rfl) j rfl
      (ix3 (j 0).val (j 1).val (j 2).val (j 0).isLt hlt (j 2).isLt) (by
        intro b
        match b with
        | 0 => rfl
        | 1 => rfl
        | 2 => rfl)]
    unfold stg
    rw [hrow _ hlt, if_pos rfl]
    have u := slice3_apply hy h₀ (ix3 (j 0).val (j 1).val (j 2).val (j 0).isLt hlt (j 2).isLt)
    have w := slice3_apply hy h₁ (ix3 (j 0).val (j 1).val (j 2).val (j 0).isLt hlt (j 2).isLt)
    rw [Nat.zero_add] at u
    have e : (j 0).val * (J + J) + (j 1).val + J = (j 0).val * (J + J) + (J + (j 1).val) := by omega
    rw [e]
    cases desc
    · exact (Ideal.minimumf_def _ _).trans (congrArg₂ min u w)
    · exact (Ideal.maximumf_def _ _).trans (congrArg₂ max u w)
  · obtain ⟨r, hr⟩ : ∃ r, (j 1).val = J + r := ⟨(j 1).val - J, by omega⟩
    have hlt : r < J := by omega
    rw [concatenate_pair_apply_right 1 _ _ (joins3 rfl) j rfl rfl
      (ix3 (j 0).val r (j 2).val (j 0).isLt hlt (j 2).isLt) (by
        intro b hb
        match b, hb with
        | 0, _ => rfl
        | 1, hb => exact absurd rfl hb
        | 2, _ => rfl) (by rw [hr]; exact Nat.add_comm r J)]
    unfold stg
    rw [hr, hrow' _ hlt, if_neg (by decide)]
    have u := slice3_apply hy h₀ (ix3 (j 0).val r (j 2).val (j 0).isLt hlt (j 2).isLt)
    have w := slice3_apply hy h₁ (ix3 (j 0).val r (j 2).val (j 0).isLt hlt (j 2).isLt)
    rw [Nat.zero_add] at u
    have e : (j 0).val * (J + J) + (J + r) - J = (j 0).val * (J + J) + r := by omega
    rw [e]
    cases desc
    · exact (Ideal.maximumf_def _ _).trans (congrArg₂ max u w)
    · exact (Ideal.minimumf_def _ _).trans (congrArg₂ min u w)

/-- A group of eight rows turned by `n`. -/
theorem turn_apply {a : ℕ} (n : BitVec 32) {z : (T3 a 8).Idx → α} {φ : ℕ → ℕ → α} (hz : Flat z φ) (j : (T3 a 8).Idx) :
    dynamicRotate 1 n none z rotates3 j = φ (j 2).val ((j 0).val * 8 + ((j 1).val + 8 - n.toNat % 8) % 8) := by
  rw [dynamicRotate_apply 1 n z rotates3 j
    (ix3 (j 0).val (((j 1).val + 8 - n.toNat % 8) % 8) (j 2).val (j 0).isLt (Nat.mod_lt _ (by decide)) (j 2).isLt) (by
      intro b
      match b with
      | 0 => rfl
      | 1 => rfl
      | 2 => rfl), flat3.1 hz]
  rfl

theorem everyGroup_apply {a : ℕ} (c : IVec S1x8x1 1) (j : (T3 a 8).Idx) :
    everyGroup a c j = c fun | 0 => ⟨0, Nat.zero_lt_one⟩ | 1 => ⟨(j 1).val, (j 1).isLt⟩ | 2 => ⟨0, Nat.zero_lt_one⟩ := by
  unfold everyGroup broadcastTo shapeCast
  have hc : ∀ i : S1x8x1.Idx, Shape.reshapeEquiv (s := S1x8x1) (s' := S1x8x1) rfl i = i := fun i =>
    S1x8x1.rowMajor.injective (Fin.ext (Shape.rowMajor_reshapeEquiv rfl i))
  rw [hc]
  refine congrArg c (funext fun b => ?_)
  match b with
  | 0 => rfl
  | 1 => rfl
  | 2 => rfl

theorem select_apply' {x y : s.Idx → α} (c : IVec s 1) (j : s.Idx) : select c x y j = if c j = 1 then x j else y j := rfl

theorem clearRows_apply (j : BitVec 32) (r : ℕ) (hr : r < 8) :
    (clearRows j fun | 0 => ⟨0, Nat.zero_lt_one⟩ | 1 => ⟨r, hr⟩ | 2 => ⟨0, Nat.zero_lt_one⟩)
      = BitVec.ofBool (BitVec.ofNat 32 r &&& j == 0#32) := by
  show BitVec.ofBool (BitVec.ofNat 32 (0 * 8 + r) &&& j == 0#32) = _
  rw [Nat.zero_mul, Nat.zero_add]

theorem setRows_apply (k : BitVec 32) (r : ℕ) (hr : r < 8) :
    (setRows k fun | 0 => ⟨0, Nat.zero_lt_one⟩ | 1 => ⟨r, hr⟩ | 2 => ⟨0, Nat.zero_lt_one⟩)
      = BitVec.ofBool (BitVec.ofNat 32 r &&& k != 0#32) := by
  show BitVec.ofBool (BitVec.ofNat 32 (0 * 8 + r) &&& k != 0#32) = _
  rw [Nat.zero_mul, Nat.zero_add]

/-- The three distances below eight, each with the two turns that bring the partner. -/
def Near (J : ℕ) (j up down : BitVec 32) : Prop :=
  (J = 1 ∧ j = 1#32 ∧ up = 7#32 ∧ down = 1#32) ∨ (J = 2 ∧ j = 2#32 ∧ up = 6#32 ∧ down = 2#32)
    ∨ (J = 4 ∧ j = 4#32 ∧ up = 4#32 ∧ down = 4#32)

theorem row8 {r : ℕ} (hr : r < 8) : r = 0 ∨ r = 1 ∨ r = 2 ∨ r = 3 ∨ r = 4 ∨ r = 5 ∨ r = 6 ∨ r = 7 := by omega

/-- What the turns and the mask of a near stage say of row `r` of a group: whether it is the lower of its pair, and
    where its partner is. -/
theorem near_facts {J : ℕ} {j up down : BitVec 32} (h : Near J j up down) (i r : ℕ) (hr : r < 8) :
    (BitVec.ofBool (BitVec.ofNat 32 r &&& j == 0#32) = 1 ↔ (i * 8 + r) / J % 2 = 0)
      ∧ ((i * 8 + r) / J % 2 = 0 → i * 8 + (r + 8 - up.toNat % 8) % 8 = i * 8 + r + J)
      ∧ (¬(i * 8 + r) / J % 2 = 0 → i * 8 + (r + 8 - down.toNat % 8) % 8 = i * 8 + r - J) := by
  rcases h with ⟨rfl, rfl, rfl, rfl⟩ | ⟨rfl, rfl, rfl, rfl⟩ | ⟨rfl, rfl, rfl, rfl⟩
  all_goals
    rcases row8 hr with rfl | rfl | rfl | rfl | rfl | rfl | rfl | rfl <;> refine ⟨⟨fun h => ?_, fun h => ?_⟩, fun h => ?_, fun h => ?_⟩ <;>
      first | omega | rfl | exact absurd h (by decide)

/-- Near compare and exchange is the stage. -/
theorem flat_nearCE (desc : Bool) {a J : ℕ} {j up down : BitVec 32} (hn : Near J j up down) {z : FVec Ideal (T3 a 8) .f32}
    {φ : ℕ → ℕ → EReal} (hz : Flat z φ) : Flat (nearCE desc a j up down z) fun d => stg J (fun _ => desc) (φ d) := by
  rw [flat3]
  intro p
  obtain ⟨hm, hu, hd⟩ := near_facts hn (p 0).val (p 1).val (p 1).isLt
  unfold nearCE
  rw [select_apply', everyGroup_apply, clearRows_apply j (p 1).val (p 1).isLt]
  have hzp := flat3.1 hz p
  have u := turn_apply up hz p
  have w := turn_apply down hz p
  unfold stg
  by_cases h : ((p 0).val * 8 + (p 1).val) / J % 2 = 0
  · rw [if_pos (hm.2 h), if_pos h]
    rw [hu h] at u
    cases desc
    · exact (Ideal.minimumf_def _ _).trans (congrArg₂ min hzp u)
    · exact (Ideal.maximumf_def _ _).trans (congrArg₂ max hzp u)
  · rw [if_neg fun h' => h (hm.1 h'), if_neg h]
    rw [hd h] at w
    cases desc
    · exact (Ideal.maximumf_def _ _).trans ((congrArg₂ max hzp w).trans (max_comm _ _))
    · exact (Ideal.minimumf_def _ _).trans ((congrArg₂ min hzp w).trans (min_comm _ _))

/-- The two bits that say the direction of a stage within eight rows. -/
def Turn (J l : ℕ) (k : BitVec 32) : Prop :=
  (J = 1 ∧ l = 1 ∧ k = 2#32) ∨ (J = 2 ∧ l = 2 ∧ k = 4#32) ∨ (J = 1 ∧ l = 2 ∧ k = 4#32)

theorem turn_facts {J l : ℕ} {j up down k : BitVec 32} (hn : Near J j up down) (ht : Turn J l k) (i r : ℕ) (hr : r < 8) :
    ((i * 8 + r) / J % 2 = 0 →
        (BitVec.ofBool (BitVec.ofNat 32 r &&& j == 0#32) ^^^ BitVec.ofBool (BitVec.ofNat 32 r &&& k != 0#32) = 1
          ↔ ¬bit l (i * 8 + r) = true))
      ∧ (¬(i * 8 + r) / J % 2 = 0 →
        (BitVec.ofBool (BitVec.ofNat 32 r &&& j == 0#32) ^^^ BitVec.ofBool (BitVec.ofNat 32 r &&& k != 0#32) = 1
          ↔ bit l (i * 8 + r - J) = true)) := by
  unfold bit
  simp only [decide_eq_true_eq]
  rcases ht with ⟨hJ, rfl, rfl⟩ | ⟨hJ, rfl, rfl⟩ | ⟨hJ, rfl, rfl⟩ <;>
    rcases hn with ⟨rfl, rfl, -, -⟩ | ⟨rfl, rfl, -, -⟩ | ⟨rfl, rfl, -, -⟩ <;> first | exact absurd hJ (by decide) | skip
  all_goals
    rcases row8 hr with rfl | rfl | rfl | rfl | rfl | rfl | rfl | rfl <;> refine ⟨fun h => ⟨fun h' => ?_, fun h' => ?_⟩, fun h => ⟨fun h' => ?_, fun h' => ?_⟩⟩ <;>
      first | omega | rfl | exact absurd h' (by decide)

/-- A stage within eight rows, its direction changing with a bit of the row. -/
theorem flat_turnCE {J l : ℕ} {j up down k : BitVec 32} (hn : Near J j up down) (ht : Turn J l k) {z : FVec Ideal (T3 16 8) .f32}
    {φ : ℕ → ℕ → EReal} (hz : Flat z φ) : Flat (turnCE j k up down z) fun d => stg J (bit l) (φ d) := by
  rw [flat3]
  intro p
  obtain ⟨hm, hu, hd⟩ := near_facts hn (p 0).val (p 1).val (p 1).isLt
  obtain ⟨ta, tb⟩ := turn_facts hn ht (p 0).val (p 1).val (p 1).isLt
  have hzp := flat3.1 hz p
  have u := turn_apply up hz p
  have w := turn_apply down hz p
  unfold turnCE
  rw [select_apply', everyGroup_apply]
  have hx : (xori (clearRows j) (setRows k) fun | 0 => ⟨0, Nat.zero_lt_one⟩ | 1 => ⟨(p 1).val, (p 1).isLt⟩ | 2 => ⟨0, Nat.zero_lt_one⟩)
      = BitVec.ofBool (BitVec.ofNat 32 (p 1).val &&& j == 0#32) ^^^ BitVec.ofBool (BitVec.ofNat 32 (p 1).val &&& k != 0#32) :=
    congrArg₂ (· ^^^ ·) (clearRows_apply j (p 1).val (p 1).isLt) (setRows_apply k (p 1).val (p 1).isLt)
  rw [hx]
  have q : ∀ A : EReal, (if ((p 0).val * 8 + (p 1).val) / J % 2 = 0 then φ (p 2).val ((p 0).val * 8 + (p 1).val + J)
      else φ (p 2).val ((p 0).val * 8 + (p 1).val - J)) = A →
      select (everyGroup 16 (clearRows j)) (dynamicRotate 1 up none z rotates3) (dynamicRotate 1 down none z rotates3) p = A := by
    intro A hA
    rw [select_apply', everyGroup_apply, clearRows_apply j (p 1).val (p 1).isLt]
    by_cases h : ((p 0).val * 8 + (p 1).val) / J % 2 = 0
    · rw [if_pos (hm.2 h), u, hu h, ← hA, if_pos h]
    · rw [if_neg fun h' => h (hm.1 h'), w, hd h, ← hA, if_neg h]
  unfold stg
  by_cases h : ((p 0).val * 8 + (p 1).val) / J % 2 = 0
  · have q := q _ (if_pos h)
    rw [if_pos h]
    by_cases hb : bit l ((p 0).val * 8 + (p 1).val) = true
    · rw [if_pos hb, if_neg fun h' => (ta h).1 h' hb]
      exact (Ideal.maximumf_def _ _).trans (congrArg₂ max hzp q)
    · rw [if_neg hb, if_pos ((ta h).2 hb)]
      exact (Ideal.minimumf_def _ _).trans (congrArg₂ min hzp q)
  · have q := q _ (if_neg h)
    rw [if_neg h]
    by_cases hb : bit l ((p 0).val * 8 + (p 1).val - J) = true
    · rw [if_pos hb, if_pos ((tb h).2 hb)]
      exact (Ideal.minimumf_def _ _).trans ((congrArg₂ min hzp q).trans (min_comm _ _))
    · rw [if_neg hb, if_neg fun h' => hb ((tb h).1 h')]
      exact (Ideal.maximumf_def _ _).trans ((congrArg₂ max hzp q).trans (max_comm _ _))

end Cert.Sorting

end
-- ==== Proof.Chunk.lean ====
module

public import proofs.«01_k».proof.Proof.Flat

/-!
# A whole chunk

The stages of a chunk put together: `sortBlocks` is the first six levels of the network, `mergeChunk` the last seven
stages of a level in one direction, and `acrossChunks` a stage whose pairs lie in different chunks.
-/

@[expose] public section

noncomputable section

namespace Cert.Sorting

open Cert.KernelIdeal Idealize.ShloMosaic

variable {s : Shape}

/-- An operation that is the stage at distance `J`, in one direction, in every lane. -/
def IsStage (J : ℕ) (desc : Bool) (f : FVec Ideal s .f32 → FVec Ideal s .f32) : Prop :=
  ∀ (y : FVec Ideal s .f32) (φ : ℕ → ℕ → EReal), Flat y φ → Flat (f y) fun d => stg J (fun _ => desc) (φ d)

theorem isStage_far (desc : Bool) {a J K : ℕ} {h₀ : 0 + J ≤ K} {h₁ : J + J ≤ K} (h : J + J = K) :
    IsStage J desc (farCE desc a J K h₀ h₁ h) := fun _ _ hy => flat_farCE desc h hy

theorem isStage_near (desc : Bool) {a J : ℕ} {j up down : BitVec 32} (hn : Near J j up down) :
    IsStage J desc (nearCE desc a j up down) := fun _ _ hy => flat_nearCE desc hn hy

theorem isStage_regrouped {J : ℕ} {desc : Bool} {n r m K : ℕ} {h : (T3 n r).ShapeCasts (T3 m K)} {h' : (T3 m K).ShapeCasts (T3 n r)}
    {f : FVec Ideal (T3 m K) .f32 → FVec Ideal (T3 m K) .f32} (hf : IsStage J desc f) : IsStage J desc (regrouped n r m K h h' f) :=
  fun _ _ hy => (hf _ _ (hy.cast h)).cast h'

theorem flat_whole {J : ℕ} {desc : Bool} {f : FVec Ideal (T3 1 128) .f32 → FVec Ideal (T3 1 128) .f32} (hf : IsStage J desc f)
    {x : FVec Ideal S128x128 .f32} {φ : ℕ → ℕ → EReal} (hx : Flat x φ) : Flat (whole f x) fun d => stg J (fun _ => desc) (φ d) :=
  (hf _ _ (hx.cast (show S128x128.ShapeCasts (T3 1 128) from rfl))).cast (show (T3 1 128).ShapeCasts S128x128 from rfl)

/-- The last seven stages of a level, in one direction. -/
theorem flat_mergeChunk (desc : Bool) {x : FVec Ideal S128x128 .f32} {φ : ℕ → ℕ → EReal} (hx : Flat x φ) :
    Flat (mergeChunk desc x) fun d => mrg 7 (fun _ => desc) (φ d) := by
  have f6 : IsStage 64 desc (farCE desc 1 64 128 (by decide) (by decide) rfl) := isStage_far desc rfl
  have f5 : IsStage 32 desc (farCE desc 2 32 64 (by decide) (by decide) rfl) := isStage_far desc rfl
  have f4 : IsStage 16 desc (farCE desc 4 16 32 (by decide) (by decide) rfl) := isStage_far desc rfl
  have f3 : IsStage 8 desc (farCE desc 8 8 16 (by decide) (by decide) rfl) := isStage_far desc rfl
  have f2 : IsStage 4 desc (nearCE desc 16 4#32 4#32 4#32) := isStage_near desc (.inr (.inr ⟨rfl, rfl, rfl, rfl⟩))
  have f1 : IsStage 2 desc (nearCE desc 16 2#32 6#32 2#32) := isStage_near desc (.inr (.inl ⟨rfl, rfl, rfl, rfl⟩))
  have f0 : IsStage 1 desc (nearCE desc 16 1#32 7#32 1#32) := isStage_near desc (.inl ⟨rfl, rfl, rfl, rfl⟩)
  exact flat_whole (isStage_regrouped f0) (flat_whole (isStage_regrouped f1) (flat_whole (isStage_regrouped f2)
    (flat_whole (isStage_regrouped f3) (flat_whole (isStage_regrouped f4) (flat_whole (isStage_regrouped f5)
      (flat_whole f6 hx))))))

/-- The distances `J` of the stages of level `l`, whose blocks have `k = 2 ^ l` rows, that are done on halves. -/
def Fits (J k l : ℕ) : Prop :=
  (k = 8 ∧ l = 3 ∧ (J = 4 ∨ J = 2 ∨ J = 1)) ∨ (k = 16 ∧ l = 4 ∧ (J = 8 ∨ J = 4 ∨ J = 2 ∨ J = 1))
    ∨ (k = 32 ∧ l = 5 ∧ (J = 16 ∨ J = 8 ∨ J = 4 ∨ J = 2 ∨ J = 1))
    ∨ (k = 64 ∧ l = 6 ∧ (J = 32 ∨ J = 16 ∨ J = 8 ∨ J = 4 ∨ J = 2 ∨ J = 1))

theorem fits_facts {J k l : ℕ} (h : Fits J k l) (i r : ℕ) (hr : r < k) :
    (i * k + r) / J % 2 = r / J % 2 ∧ (i * (2 * k) + r) / J % 2 = r / J % 2 ∧ (i * (2 * k) + (k + r)) / J % 2 = r / J % 2
      ∧ (r / J % 2 = 0 → r + J < k) ∧ (¬r / J % 2 = 0 → J ≤ r)
      ∧ (i * (2 * k) + r) / 2 ^ l % 2 = 0 ∧ (i * (2 * k) + (k + r)) / 2 ^ l % 2 = 1 := by
  rcases h with ⟨rfl, rfl, h⟩ | ⟨rfl, rfl, h⟩ | ⟨rfl, rfl, h⟩ | ⟨rfl, rfl, h⟩
  · rcases h with rfl | rfl | rfl <;> refine ⟨?_, ?_, ?_, ?_, ?_, ?_, ?_⟩ <;> omega
  · rcases h with rfl | rfl | rfl | rfl <;> refine ⟨?_, ?_, ?_, ?_, ?_, ?_, ?_⟩ <;> omega
  · rcases h with rfl | rfl | rfl | rfl | rfl <;> refine ⟨?_, ?_, ?_, ?_, ?_, ?_, ?_⟩ <;> omega
  · rcases h with rfl | rfl | rfl | rfl | rfl | rfl <;> refine ⟨?_, ?_, ?_, ?_, ?_, ?_, ?_⟩ <;> omega

/-- A stage of the lower half of every block of `2 k` rows, … -/
theorem stg_lower {J k l : ℕ} (h : Fits J k l) (x : ℕ → EReal) (i r : ℕ) (hr : r < k) :
    stg J (fun _ => false) (fun r => x (r / k * (2 * k) + (0 * k + r % k))) (i * k + r) = stg J (bit l) x (i * (2 * k) + r) := by
  obtain ⟨a, b, -, c, d, e, -⟩ := fits_facts h i r hr
  unfold stg
  rw [a, b]
  by_cases hp : r / J % 2 = 0
  · have e' : bit l (i * (2 * k) + r) = false := decide_eq_false (by rw [e]; decide)
    have v : ∀ r', r' < k → (i * k + r') / k * (2 * k) + (0 * k + (i * k + r') % k) = i * (2 * k) + r' := fun r' hr' => by
      rw [(div_mod_of_lt hr').1, (div_mod_of_lt hr').2, Nat.zero_mul, Nat.zero_add]
    rw [if_pos hp, if_pos hp, e', Nat.add_assoc (i * k) r J]
    dsimp only
    rw [v _ (c hp), v _ hr, Nat.add_assoc]
  · have hJ := d hp
    have hr' : r - J < k := by omega
    have e' : bit l (i * (2 * k) + (r - J)) = false := decide_eq_false (by rw [(fits_facts h i _ hr').2.2.2.2.2.1]; decide)
    have v : ∀ r', r' < k → (i * k + r') / k * (2 * k) + (0 * k + (i * k + r') % k) = i * (2 * k) + r' := fun r' hr' => by
      rw [(div_mod_of_lt hr').1, (div_mod_of_lt hr').2, Nat.zero_mul, Nat.zero_add]
    rw [if_neg hp, if_neg hp, Nat.add_sub_assoc hJ, Nat.add_sub_assoc hJ, e']
    dsimp only
    rw [v _ hr', v _ hr]

/-- … and of the upper half. -/
theorem stg_upper {J k l : ℕ} (h : Fits J k l) (x : ℕ → EReal) (i r : ℕ) (hr : r < k) :
    stg J (fun _ => true) (fun r => x (r / k * (2 * k) + (1 * k + r % k))) (i * k + r) = stg J (bit l) x (i * (2 * k) + (k + r)) := by
  obtain ⟨a, -, b, c, d, -, e⟩ := fits_facts h i r hr
  unfold stg
  rw [a, b]
  have v : ∀ r', r' < k → (i * k + r') / k * (2 * k) + (1 * k + (i * k + r') % k) = i * (2 * k) + (k + r') := fun r' hr' => by
    rw [(div_mod_of_lt hr').1, (div_mod_of_lt hr').2, Nat.one_mul]
  by_cases hp : r / J % 2 = 0
  · have e' : bit l (i * (2 * k) + (k + r)) = true := decide_eq_true e
    rw [if_pos hp, if_pos hp, e', Nat.add_assoc (i * k) r J]
    dsimp only
    rw [v _ (c hp), v _ hr, Nat.add_assoc (i * (2 * k)), Nat.add_assoc k]
  · have hJ := d hp
    have hr' : r - J < k := by omega
    have hJ' : J ≤ k + r := by omega
    have e' : bit l (i * (2 * k) + (k + (r - J))) = true := decide_eq_true (fits_facts h i _ hr').2.2.2.2.2.2
    rw [if_neg hp, if_neg hp, Nat.add_sub_assoc hJ, Nat.add_sub_assoc hJ', Nat.add_sub_assoc hJ, e']
    dsimp only
    rw [v _ hr', v _ hr]

/-- A stage on halves, up on one and down on the other, is the stage of the level. -/
theorem flat_halves {J k l a : ℕ} (hl : Fits J k l) {h : S128x128.ShapeCasts (T4 a 2 k)} {h' : (T4 a 2 k).ShapeCasts S128x128}
    {g : (T4 a 1 k).ShapeCasts (T3 a k)} {g' : (T3 a k).ShapeCasts (T4 a 1 k)} {f₀ f₁ : FVec Ideal (T3 a k) .f32 → FVec Ideal (T3 a k) .f32}
    (h₀ : IsStage J false f₀) (h₁ : IsStage J true f₁) {x : FVec Ideal S128x128 .f32} {φ : ℕ → ℕ → EReal} (hx : Flat x φ) :
    Flat (halves a k h h' g g' f₀ f₁ x) fun d => stg J (bit l) (φ d) := by
  have hy := hx.cast h
  have u := (h₀ _ _ ((flat_slice4 (b := 0) hy (by decide)).cast g)).cast g'
  have w := (h₁ _ _ ((flat_slice4 (b := 1) hy (by decide)).cast g)).cast g'
  exact (flat_join4 u w (fun d i r hr => stg_lower hl (φ d) i r hr) (fun d i r hr => stg_upper hl (φ d) i r hr)).cast h'

theorem flat_byEight {J l : ℕ} {j up down k : BitVec 32} (hn : Near J j up down) (ht : Turn J l k) {x : FVec Ideal S128x128 .f32}
    {φ : ℕ → ℕ → EReal} (hx : Flat x φ) : Flat (byEight (turnCE j k up down) x) fun d => stg J (bit l) (φ d) :=
  (flat_turnCE hn ht (hx.cast (show S128x128.ShapeCasts (T3 16 8) from rfl))).cast
    (show (T3 16 8).ShapeCasts S128x128 from rfl)

theorem flat_splitTail {a k l : ℕ} (h4 : Fits 4 k l) (h2 : Fits 2 k l) (h1 : Fits 1 k l) {h : S128x128.ShapeCasts (T4 a 2 k)}
    {h' : (T4 a 2 k).ShapeCasts S128x128} {g : (T4 a 1 k).ShapeCasts (T3 a k)} {g' : (T3 a k).ShapeCasts (T4 a 1 k)}
    {e : (T3 a k).ShapeCasts (T3 8 8)} {e' : (T3 8 8).ShapeCasts (T3 a k)} {x : FVec Ideal S128x128 .f32} {φ : ℕ → ℕ → EReal}
    (hx : Flat x φ) : Flat (splitTail a k h h' g g' e e' x) fun d => mrg 3 (bit l) (φ d) :=
  flat_halves h1 (isStage_regrouped (isStage_near false (.inl ⟨rfl, rfl, rfl, rfl⟩)))
    (isStage_regrouped (isStage_near true (.inl ⟨rfl, rfl, rfl, rfl⟩)))
  (flat_halves h2 (isStage_regrouped (isStage_near false (.inr (.inl ⟨rfl, rfl, rfl, rfl⟩))))
    (isStage_regrouped (isStage_near true (.inr (.inl ⟨rfl, rfl, rfl, rfl⟩))))
  (flat_halves h4 (isStage_regrouped (isStage_near false (.inr (.inr ⟨rfl, rfl, rfl, rfl⟩))))
    (isStage_regrouped (isStage_near true (.inr (.inr ⟨rfl, rfl, rfl, rfl⟩)))) hx))

theorem flat_splitFar {a k l m J K : ℕ} (hl : Fits J k l) {h : S128x128.ShapeCasts (T4 a 2 k)} {h' : (T4 a 2 k).ShapeCasts S128x128}
    {g : (T4 a 1 k).ShapeCasts (T3 a k)} {g' : (T3 a k).ShapeCasts (T4 a 1 k)} {e : (T3 a k).ShapeCasts (T3 m K)}
    {e' : (T3 m K).ShapeCasts (T3 a k)} {h₀ : 0 + J ≤ K} {h₁ : J + J ≤ K} {hJ : J + J = K} {x : FVec Ideal S128x128 .f32}
    {φ : ℕ → ℕ → EReal} (hx : Flat x φ) : Flat (splitFar a k m J K h h' g g' e e' h₀ h₁ hJ x) fun d => stg J (bit l) (φ d) :=
  flat_halves hl (isStage_regrouped (isStage_far false hJ)) (isStage_regrouped (isStage_far true hJ)) hx

theorem flat_splitFirst {a k l J : ℕ} (hl : Fits J k l) {h : S128x128.ShapeCasts (T4 a 2 k)} {h' : (T4 a 2 k).ShapeCasts S128x128}
    {g : (T4 a 1 k).ShapeCasts (T3 a k)} {g' : (T3 a k).ShapeCasts (T4 a 1 k)} {h₀ : 0 + J ≤ k} {h₁ : J + J ≤ k} {hJ : J + J = k}
    {x : FVec Ideal S128x128 .f32} {φ : ℕ → ℕ → EReal} (hx : Flat x φ) :
    Flat (splitFirst a k J h h' g g' h₀ h₁ hJ x) fun d => stg J (bit l) (φ d) :=
  flat_halves hl (isStage_far false hJ) (isStage_far true hJ) hx

/-- The first six levels of a chunk are the first six levels of the network. -/
theorem flat_sortBlocks {x : FVec Ideal S128x128 .f32} {φ : ℕ → ℕ → EReal} (hx : Flat x φ) :
    Flat (sortBlocks x) fun d => lev 6 (φ d) := by
  have a1 := flat_byEight (.inl ⟨rfl, rfl, rfl, rfl⟩) (.inl ⟨rfl, rfl, rfl⟩) hx
  have a2 := flat_byEight (.inr (.inl ⟨rfl, rfl, rfl, rfl⟩)) (.inr (.inl ⟨rfl, rfl, rfl⟩)) a1
  have a3 := flat_byEight (.inl ⟨rfl, rfl, rfl, rfl⟩) (.inr (.inr ⟨rfl, rfl, rfl⟩)) a2
  have b1 := flat_halves (a := 8) (h := rfl) (h' := rfl) (g := rfl) (g' := rfl) (show Fits 4 8 3 from .inl ⟨rfl, rfl, .inl rfl⟩)
    (isStage_near false (.inr (.inr ⟨rfl, rfl, rfl, rfl⟩))) (isStage_near true (.inr (.inr ⟨rfl, rfl, rfl, rfl⟩))) a3
  have b2 := flat_halves (a := 8) (h := rfl) (h' := rfl) (g := rfl) (g' := rfl) (show Fits 2 8 3 from .inl ⟨rfl, rfl, .inr (.inl rfl)⟩)
    (isStage_near false (.inr (.inl ⟨rfl, rfl, rfl, rfl⟩))) (isStage_near true (.inr (.inl ⟨rfl, rfl, rfl, rfl⟩))) b1
  have b3 := flat_halves (a := 8) (h := rfl) (h' := rfl) (g := rfl) (g' := rfl) (show Fits 1 8 3 from .inl ⟨rfl, rfl, .inr (.inr rfl)⟩)
    (isStage_near false (.inl ⟨rfl, rfl, rfl, rfl⟩)) (isStage_near true (.inl ⟨rfl, rfl, rfl, rfl⟩)) b2
  have c1 := flat_splitFirst (a := 4) (h := rfl) (h' := rfl) (g := rfl) (g' := rfl) (h₀ := by decide) (h₁ := by decide) (hJ := rfl)
    (show Fits 8 16 4 by unfold Fits; omega) b3
  have c2 := flat_splitTail (a := 4) (h := rfl) (h' := rfl) (g := rfl) (g' := rfl) (e := rfl) (e' := rfl)
    (show Fits 4 16 4 by unfold Fits; omega) (by unfold Fits; omega) (by unfold Fits; omega) c1
  have d1 := flat_splitFirst (a := 2) (h := rfl) (h' := rfl) (g := rfl) (g' := rfl) (h₀ := by decide) (h₁ := by decide) (hJ := rfl)
    (show Fits 16 32 5 by unfold Fits; omega) c2
  have d2 := flat_splitFar (a := 2) (m := 4) (h := rfl) (h' := rfl) (g := rfl) (g' := rfl) (e := rfl) (e' := rfl) (h₀ := by decide)
    (h₁ := by decide) (hJ := show 8 + 8 = 16 from rfl) (show Fits 8 32 5 by unfold Fits; omega) d1
  have d3 := flat_splitTail (a := 2) (h := rfl) (h' := rfl) (g := rfl) (g' := rfl) (e := rfl) (e' := rfl)
    (show Fits 4 32 5 by unfold Fits; omega) (by unfold Fits; omega) (by unfold Fits; omega) d2
  have e1 := flat_splitFirst (a := 1) (h := rfl) (h' := rfl) (g := rfl) (g' := rfl) (h₀ := by decide) (h₁ := by decide) (hJ := rfl)
    (show Fits 32 64 6 by unfold Fits; omega) d3
  have e2 := flat_splitFar (a := 1) (m := 2) (h := rfl) (h' := rfl) (g := rfl) (g' := rfl) (e := rfl) (e' := rfl) (h₀ := by decide)
    (h₁ := by decide) (hJ := show 16 + 16 = 32 from rfl) (show Fits 16 64 6 by unfold Fits; omega) e1
  have e3 := flat_splitFar (a := 1) (m := 4) (h := rfl) (h' := rfl) (g := rfl) (g' := rfl) (e := rfl) (e' := rfl) (h₀ := by decide)
    (h₁ := by decide) (hJ := show 8 + 8 = 16 from rfl) (show Fits 8 64 6 by unfold Fits; omega) e2
  exact flat_splitTail (a := 1) (h := rfl) (h' := rfl) (g := rfl) (g' := rfl) (e := rfl) (e' := rfl)
    (show Fits 4 64 6 by unfold Fits; omega) (by unfold Fits; omega) (by unfold Fits; omega) e3

end Cert.Sorting

end
-- ==== Proof.GroupFacts.lean ====
module

public import proofs.«01_k».proof.Proof.Chunk
public import proofs.«01_k».proof.Proof.Groups

/-!
# What a merge of chunks computes

Chunk `i` of a column is its rows from `128 i` on. A merge of `2 ^ p` chunks, each of them level `p + 6` of the network,
gives level `p + 7`.
-/

@[expose] public section

noncomputable section

namespace Cert.Sorting

open Cert.KernelIdeal Idealize.ShloMosaic

variable {s : Shape}

theorem flat_min {x y : FVec Ideal s .f32} {φ χ : ℕ → ℕ → EReal} (hx : Flat x φ) (hy : Flat y χ) :
    Flat (minimumf x y) fun d r => min (φ d r) (χ d r) := fun j => by
  dsimp only
  rw [← hx j, ← hy j]; rfl

theorem flat_max {x y : FVec Ideal s .f32} {φ χ : ℕ → ℕ → EReal} (hx : Flat x φ) (hy : Flat y χ) :
    Flat (maximumf x y) fun d r => max (φ d r) (χ d r) := fun j => by
  dsimp only
  rw [← hx j, ← hy j]; rfl

/-- `x` is chunk `q` of the columns `φ`. -/
def IsChunk (x : FVec Ideal S128x128 .f32) (φ : ℕ → ℕ → EReal) (q : ℕ) : Prop := Flat x fun d r => φ d (128 * q + r)

theorem IsChunk.congr {x : FVec Ideal S128x128 .f32} {φ χ : ℕ → ℕ → EReal} {q q' : ℕ} (h : IsChunk x φ q)
    (he : ∀ d r, r < 128 → φ d (128 * q + r) = χ d (128 * q' + r)) : IsChunk x χ q' :=
  Flat.congr h (fun d r hr => he d r hr) ⟨128, rfl⟩

/-- Compare and exchange chunk by chunk is a stage at a distance of whole chunks. -/
theorem isChunk_across {dist N : ℕ} (hd : 0 < dist) (hN : 2 * dist ∣ N) (desc : Bool) {X : ℕ → FVec Ideal S128x128 .f32} {φ : ℕ → ℕ → EReal}
    (hX : ∀ i, i < N → IsChunk (X i) φ i) (i : ℕ) (hi : i < N) :
    IsChunk (across dist desc X i) (fun d => stg (128 * dist) (fun _ => desc) (φ d)) i := by
  have hq : ∀ r, r < 128 → (128 * i + r) / (128 * dist) = i / dist := fun r hr => by
    rw [← Nat.div_div_eq_div_mul]
    congr 1
    omega
  by_cases hp : i / dist % 2 = 0
  · have hlt : i + dist < N := by
      obtain ⟨m, rfl⟩ := hN
      have h1 : i / (2 * dist) < m := Nat.div_lt_of_lt_mul hi
      rw [Nat.mul_comm, ← Nat.div_div_eq_div_mul] at h1
      have h2 : i < dist * (i / dist + 1) := Nat.lt_mul_div_succ i hd
      have h3 : i / dist + 2 ≤ 2 * m := by omega
      calc i + dist < dist * (i / dist + 1) + dist := Nat.add_lt_add_right h2 _
        _ = dist * (i / dist + 2) := by rw [← Nat.mul_succ]
        _ ≤ dist * (2 * m) := Nat.mul_le_mul_left _ h3
        _ = 2 * dist * m := by rw [Nat.mul_comm 2 dist, Nat.mul_assoc]
    have e : ∀ r, 128 * (i + dist) + r = 128 * i + r + 128 * dist := fun r => by omega
    have hb : Nat.beq (i / dist % 2) 0 = true := by rw [hp]; rfl
    cases desc
    · have h : Flat (across dist false X i) fun d r => min (φ d (128 * i + r)) (φ d (128 * (i + dist) + r)) := by
        unfold across; rw [hb]; exact flat_min (hX i hi) (hX _ hlt)
      refine h.congr (fun d r hr => ?_) ⟨128, rfl⟩
      dsimp only; unfold stg; rw [hq r hr, if_pos hp, e]; rfl
    · have h : Flat (across dist true X i) fun d r => max (φ d (128 * i + r)) (φ d (128 * (i + dist) + r)) := by
        unfold across; rw [hb]; exact flat_max (hX i hi) (hX _ hlt)
      refine h.congr (fun d r hr => ?_) ⟨128, rfl⟩
      dsimp only; unfold stg; rw [hq r hr, if_pos hp, e]; rfl
  · have hle : dist ≤ i := le_of_div_mod hp
    have hlt : i - dist < N := by omega
    have e : ∀ r, 128 * (i - dist) + r = 128 * i + r - 128 * dist := fun r => by omega
    have hb : Nat.beq (i / dist % 2) 0 = false := by
      rw [show i / dist % 2 = 1 by omega]; rfl
    cases desc
    · have h : Flat (across dist false X i) fun d r => max (φ d (128 * (i - dist) + r)) (φ d (128 * i + r)) := by
        unfold across; rw [hb]; exact flat_max (hX _ hlt) (hX i hi)
      refine h.congr (fun d r hr => ?_) ⟨128, rfl⟩
      dsimp only; unfold stg; rw [hq r hr, if_neg hp, e]; rfl
    · have h : Flat (across dist true X i) fun d r => min (φ d (128 * (i - dist) + r)) (φ d (128 * i + r)) := by
        unfold across; rw [hb]; exact flat_min (hX _ hlt) (hX i hi)
      refine h.congr (fun d r hr => ?_) ⟨128, rfl⟩
      dsimp only; unfold stg; rw [hq r hr, if_neg hp, e]; rfl

/-- A merge of chunks is the last stages of a level, in one direction. -/
theorem isChunk_mergeGroup (desc : Bool) {p N : ℕ} (hN : 2 ^ p ∣ N) {X : ℕ → FVec Ideal S128x128 .f32} {φ : ℕ → ℕ → EReal}
    (hX : ∀ i, i < N → IsChunk (X i) φ i) (i : ℕ) (hi : i < N) :
    IsChunk (mergeGroup desc p X i) (fun d => mrg (p + 7) (fun _ => desc) (φ d)) i := by
  induction p generalizing X φ with
  | zero =>
    refine Flat.congr (flat_mergeChunk desc (hX i hi)) (fun d r hr => ?_) ⟨128, rfl⟩
    exact (mrg_shift (p := 7) ⟨i, rfl⟩ (fun _ => desc) (φ d) r).symm
  | succ p ih =>
    have h := ih (dvd_trans (pow_dvd_pow 2 p.le_succ) hN) (isChunk_across (Nat.two_pow_pos p) (by rwa [← pow_succ']) desc hX)
    rw [show p + 1 + 7 = p + 7 + 1 by omega]
    have e : 128 * 2 ^ p = 2 ^ (p + 7) := by rw [pow_add, Nat.mul_comm]; rfl
    rw [e] at h
    exact h

/-- A merge of the chunks of group `g`, in the direction of the group, takes level `p + 6` to level `p + 7`. -/
theorem isChunk_level {p g : ℕ} {desc : Bool} (hg : decide (g % 2 = 1) = desc) {X : ℕ → FVec Ideal S128x128 .f32} {x : ℕ → ℕ → EReal}
    (hX : ∀ i, i < 2 ^ p → IsChunk (X i) (fun d => lev (p + 6) (x d)) (2 ^ p * g + i)) (i : ℕ) (hi : i < 2 ^ p) :
    IsChunk (mergeGroup desc p X i) (fun d => lev (p + 7) (x d)) (2 ^ p * g + i) := by
  have e : ∀ i r, 128 * (2 ^ p * g + i) + r = 2 ^ (p + 7) * g + (128 * i + r) := fun i r => by
    rw [Nat.mul_add, ← Nat.mul_assoc, show 128 * 2 ^ p = 2 ^ (p + 7) by rw [pow_add, Nat.mul_comm]; rfl, Nat.add_assoc]
  have h := isChunk_mergeGroup desc (dvd_refl (2 ^ p)) (X := X) (φ := fun d r => lev (p + 6) (x d) (2 ^ (p + 7) * g + r))
    (fun i hi => (hX i hi).congr fun d r _ => congrArg (lev (p + 6) (x d)) (e i r)) i hi
  refine h.congr fun d r hr => ?_
  rw [e]
  have hlt : 128 * i + r < 2 ^ (p + 7) := by
    rw [pow_add, show (2 : ℕ) ^ 7 = 128 from rfl]; omega
  refine (mrg_block (p := p + 7) (Dvd.intro _ rfl) (fun r hr => ?_) (fun r _ => rfl) _ hlt).symm
  unfold bit
  rw [Nat.mul_add_div (Nat.two_pow_pos _), Nat.div_eq_of_lt hr, Nat.add_zero, hg]

/-- Sorting chunk `q`, in its direction, is the first seven levels. -/
theorem isChunk_sortChunk {q : ℕ} {desc : Bool} (hq : decide (q % 2 = 1) = desc) {y : FVec Ideal S128x128 .f32} {x : ℕ → ℕ → EReal}
    (hy : IsChunk y x q) : IsChunk (sortChunk desc y) (fun d => lev 7 (x d)) q := by
  have h := isChunk_level (p := 0) (g := q) hq (X := fun _ => sortBlocks y) (x := x) (fun i hi => by
    obtain rfl : i = 0 := Nat.lt_one_iff.mp hi
    rw [Nat.add_zero, pow_zero, Nat.one_mul]
    refine Flat.congr (flat_sortBlocks hy) (fun d r _ => ?_) ⟨128, rfl⟩
    exact (lev_shift ⟨q, rfl⟩ (x d) r).symm) 0 Nat.one_pos
  rw [Nat.add_zero, pow_zero, Nat.one_mul] at h
  exact h

/-- Sorting a pair of chunks, in its direction, is the first eight levels. -/
theorem isChunk_sortPair {g : ℕ} {desc : Bool} (hg : decide (g % 2 = 1) = desc) {X : ℕ → FVec Ideal S128x128 .f32} {x : ℕ → ℕ → EReal}
    (hX : ∀ i, i < 2 → IsChunk (X i) x (2 * g + i)) (i : ℕ) (hi : i < 2) :
    IsChunk (sortPair desc X i) (fun d => lev 8 (x d)) (2 * g + i) :=
  isChunk_level (p := 1) hg (fun i hi => by
    match i, hi with
    | 0, _ => exact isChunk_sortChunk (decide_eq_false (by omega)) (hX 0 (by omega))
    | 1, _ => exact isChunk_sortChunk (decide_eq_true (by omega)) (hX 1 (by omega))) i hi

/-- A row of lanes, as a function of the lane. -/
def laneOf (g : FVec Ideal S1x128 .f32) (d : ℕ) : EReal := if h : d < 128 then g (fun | 0 => (⟨0, Nat.one_pos⟩ : Fin 1) | 1 => (⟨d, h⟩ : Fin 128)) else 0

/-- A chunk times a row of signs. -/
theorem isChunk_signed (g : FVec Ideal S1x128 .f32) {y : FVec Ideal S128x128 .f32} {φ : ℕ → ℕ → EReal} {q : ℕ} (hy : IsChunk y φ q) :
    IsChunk (signed g y) (fun d r => φ d r * laneOf g d) q := flat2.mpr fun j => by
  have e := flat2.mp hy j
  have h : laneOf g (j 1).val = broadcastTo S128x128 g spreadsRow j := by
    have hlt : (j 1).val < 128 := (j 1).isLt
    unfold laneOf
    rw [dif_pos hlt]
    exact congrArg g (funext fun a => by
      match a with
      | 0 => exact Fin.ext rfl
      | 1 => exact Fin.ext rfl)
  dsimp only at e ⊢
  rw [h, ← e]
  rfl

end Cert.Sorting

end
-- ==== Proof.Contents.lean ====
module

public import proofs.«01_k».proof.Proof.GroupFacts

/-!
# What a block holds

`Holds g q φ`: in chunk `q` the block `g` holds the columns `φ`. `Mid g Q φ χ`: the chunks in `Q` hold `χ` already, the others
still hold `φ`. Storing chunks that hold `χ` enlarges `Q`; so do the merges of groups.
-/

@[expose] public section

noncomputable section

namespace Cert.Sorting

open Cert.KernelIdeal Idealize.ShloMosaic

/-- Chunk `q` of the block holds these columns. -/
def Holds (g : S1x1x4096x128.Idx → EReal) (q : ℕ) (φ : ℕ → ℕ → EReal) : Prop :=
  ∀ j : S1x1x4096x128.Idx, (j 2).val / 128 = q → g j = φ (j 3).val (j 2).val

/-- The chunks in `Q` hold `χ`, the others hold `φ`. -/
def Mid (g : S1x1x4096x128.Idx → EReal) (Q : ℕ → Prop) (φ χ : ℕ → ℕ → EReal) : Prop :=
  ∀ q, q < 32 → (Q q → Holds g q χ) ∧ (¬Q q → Holds g q φ)

theorem Mid.congr {g : S1x1x4096x128.Idx → EReal} {Q Q' : ℕ → Prop} {φ χ : ℕ → ℕ → EReal} (h : Mid g Q φ χ)
    (he : ∀ q, q < 32 → (Q q ↔ Q' q)) : Mid g Q' φ χ := fun q hq =>
  ⟨fun h' => (h q hq).1 ((he q hq).mpr h'), fun h' => (h q hq).2 fun h'' => h' ((he q hq).mp h'')⟩

/-- Once every chunk is done, the next pass begins. -/
theorem Mid.next {g : S1x1x4096x128.Idx → EReal} {Q : ℕ → Prop} {φ χ ψ : ℕ → ℕ → EReal} (h : Mid g Q φ χ) (hQ : ∀ q, q < 32 → Q q) :
    Mid g (fun _ => False) χ ψ := fun q hq => ⟨False.elim, fun _ => (h q hq).1 (hQ q hq)⟩

/-- The columns of a block. -/
def columns (g : S1x1x4096x128.Idx → EReal) (d r : ℕ) : EReal :=
  if h : r < 4096 ∧ d < 128 then
    g (fun | 0 => (⟨0, Nat.one_pos⟩ : Fin 1) | 1 => (⟨0, Nat.one_pos⟩ : Fin 1) | 2 => (⟨r, h.1⟩ : Fin 4096) | 3 => (⟨d, h.2⟩ : Fin 128))
  else 0

theorem columns_apply (g : S1x1x4096x128.Idx → EReal) (j : S1x1x4096x128.Idx) : columns g (j 3).val (j 2).val = g j := by
  have h : (j 2).val < 4096 ∧ (j 3).val < 128 := ⟨(j 2).isLt, (j 3).isLt⟩
  have h0 : (j 0).val < 1 := (j 0).isLt
  have h1 : (j 1).val < 1 := (j 1).isLt
  unfold columns
  rw [dif_pos h]
  refine congrArg g (funext fun a => ?_)
  match a with
  | 0 => exact Fin.ext (show 0 = (j 0).val by omega)
  | 1 => exact Fin.ext (show 0 = (j 1).val by omega)
  | 2 => rfl
  | 3 => rfl

theorem mid_start (g : S1x1x4096x128.Idx → EReal) (χ : ℕ → ℕ → EReal) : Mid g (fun _ => False) (columns g) χ :=
  fun _ _ => ⟨False.elim, fun _ j _ => (columns_apply g j).symm⟩

section

variable {κ : Kind} {sp : Space} (v : View sig κ sp S1x1x4096x128 .f32) (f : v.ty.Contents (Elt Ideal))

/-- A chunk loaded from the block. -/
theorem isChunk_chunkAt {off : Fin 4 → ℕ} {q : ℕ} (h : Fit off) (ho : off = ![0, 0, 128 * q, 0]) {φ : ℕ → ℕ → EReal}
    (hf : Holds (v.read (Elt Ideal) f) q φ) : IsChunk (chunkAt v f off h) φ q := by
  subst ho
  have hr : Flat (s := S1x1x128x128)
      (v.readAt (Elt Ideal) (Rect.unit (s := S1x1x4096x128) ![0, 0, 128 * q, 0] S1x1x128x128.size h).toLoadRect f)
      fun d r => φ d (128 * q + r) := by
    refine flat4 (a := 1) (b := 1) (c := 128) |>.mpr fun j => ?_
    have h0 : (j 0).val < 1 := (j 0).isLt
    have h1 : (j 1).val < 1 := (j 1).isLt
    have h2 : (j 2).val < 128 := (j 2).isLt
    rw [View.readAt_apply]
    have e2 : ((Rect.unit (s := S1x1x4096x128) ![0, 0, 128 * q, 0] S1x1x128x128.size h).toLoadRect.idx j 2).val = 128 * q + (j 2).val :=
      show 128 * q + 1 * (j 2).val = _ by omega
    have e3 : ((Rect.unit (s := S1x1x4096x128) ![0, 0, 128 * q, 0] S1x1x128x128.size h).toLoadRect.idx j 3).val = (j 3).val :=
      show 0 + 1 * (j 3).val = _ by omega
    rw [hf _ (by rw [e2]; omega), e2, e3]
    rw [show (j 0).val * 1 + (j 1).val = 0 by omega, Nat.zero_mul, Nat.zero_add]
  exact hr.cast (show S1x1x128x128.ShapeCasts S128x128 from rfl)

theorem isChunk_chunksAt {off : ℕ → Fin 4 → ℕ} {n q : ℕ} (h : ∀ i, i < n → Fit (off i)) {φ : ℕ → ℕ → EReal}
    (ho : ∀ i, i < n → off i = ![0, 0, 128 * (q + i), 0]) (hf : ∀ i, i < n → Holds (v.read (Elt Ideal) f) (q + i) φ) (i : ℕ) (hi : i < n) :
    IsChunk (chunksAt v f off n h i) φ (q + i) := by
  unfold chunksAt
  rw [dif_pos hi]
  exact isChunk_chunkAt v f (h i hi) (ho i hi) (hf i hi)

/-- Storing one chunk. -/
theorem holds_storeAt {off : Fin 4 → ℕ} {q : ℕ} (h : Fit off) (ho : off = ![0, 0, 128 * q, 0]) {y : FVec Ideal S128x128 .f32}
    {χ : ℕ → ℕ → EReal} (hy : IsChunk y χ q) (L : List (View.Piece (Elt Ideal) S1x1x4096x128 .f32)) :
    Holds (v.read (Elt Ideal) (v.writes (Elt Ideal) f (storeAt off h y :: L))) q χ
      ∧ ∀ q', q' ≠ q → ∀ φ, Holds (v.read (Elt Ideal) (v.writes (Elt Ideal) f L)) q' φ →
        Holds (v.read (Elt Ideal) (v.writes (Elt Ideal) f (storeAt off h y :: L))) q' φ := by
  constructor
  · intro j hj
    have h0 : (j 0).val < 1 := (j 0).isLt
    have h1 : (j 1).val < 1 := (j 1).isLt
    have h3 : (j 3).val < 128 := (j 3).isLt
    have hm : (j 2).val - 128 * q < 128 := by omega
    have hy' : Flat (toBlock y) fun d r => χ d (128 * q + r) :=
      hy.cast (show S128x128.ShapeCasts S1x1x128x128 from rfl)
    have e := flat4 (a := 1) (b := 1) (c := 128) |>.mp hy' (ix4 0 0 ((j 2).val - 128 * q) (j 3).val Nat.one_pos Nat.one_pos hm h3)
    refine (View.read_writes_cons_unit_of_mem v f h (toBlock y) L j
      (ix4 (a := 1) (b := 1) (c := 128) 0 0 ((j 2).val - 128 * q) (j 3).val Nat.one_pos Nat.one_pos hm h3) ho fun a => ?_).trans (e.trans ?_)
    · match a with
      | 0 => show (j 0).val = 0 + 0; omega
      | 1 => show (j 1).val = 0 + 0; omega
      | 2 => show (j 2).val = 128 * q + ((j 2).val - 128 * q); omega
      | 3 => show (j 3).val = 0 + (j 3).val; omega
    · show χ (j 3).val (128 * q + ((0 * 1 + 0) * 128 + ((j 2).val - 128 * q))) = _
      congr 1
      omega
  · intro q' hq φ hφ j hj
    refine (View.read_writes_cons_unit_of_not_mem v f h (toBlock y) L j ho 2 ?_).trans (hφ j hj)
    show (j 2).val < 128 * q ∨ 128 * q + 128 ≤ (j 2).val
    omega

/-- Storing the chunks from `q` on. -/
theorem mid_stored {off : ℕ → Fin 4 → ℕ} {y : ℕ → FVec Ideal S128x128 .f32} {q : ℕ} {Q : ℕ → Prop} {φ χ : ℕ → ℕ → EReal}
    {L : List (View.Piece (Elt Ideal) S1x1x4096x128 .f32)} (hL : Mid (v.read (Elt Ideal) (v.writes (Elt Ideal) f L)) Q φ χ) (n : ℕ)
    (h : ∀ i, i < n → Fit (off i)) (ho : ∀ i, i < n → off i = ![0, 0, 128 * (q + i), 0]) (hy : ∀ i, i < n → IsChunk (y i) χ (q + i)) :
    Mid (v.read (Elt Ideal) (v.writes (Elt Ideal) f (stored off y L n h))) (fun c => Q c ∨ q ≤ c ∧ c < q + n) φ χ := by
  induction n with
  | zero => exact hL.congr fun c _ => ⟨.inl, fun h => h.elim id fun h => by omega⟩
  | succ n ih =>
    have hs := holds_storeAt v f (h n (Nat.lt_succ_self n)) (ho n (Nat.lt_succ_self n)) (hy n (Nat.lt_succ_self n))
      (stored off y L n fun i hi => h i (Nat.lt_succ_of_lt hi))
    have hn := ih (fun i hi => h i (Nat.lt_succ_of_lt hi)) (fun i hi => ho i (Nat.lt_succ_of_lt hi)) fun i hi => hy i (Nat.lt_succ_of_lt hi)
    intro c hc
    by_cases he : c = q + n
    · subst he
      exact ⟨fun _ => hs.1, fun h' => absurd (.inr ⟨by omega, by omega⟩) h'⟩
    · refine ⟨fun h' => hs.2 c he χ ((hn c hc).1 ?_), fun h' => hs.2 c he φ ((hn c hc).2 ?_)⟩
      · rcases h' with h' | h'
        · exact .inl h'
        · exact .inr ⟨h'.1, by omega⟩
      · rintro (h'' | h'')
        · exact h' (.inl h'')
        · exact h' (.inr ⟨h''.1, by omega⟩)

/-- Merging the chunks of group `g`. -/
theorem mid_mergeGroup {p n g : ℕ} (hp : n = 2 ^ p) {desc : Bool} (hg : decide (g % 2 = 1) = desc) {off : ℕ → Fin 4 → ℕ} {Q : ℕ → Prop}
    {x : ℕ → ℕ → EReal} {L : List (View.Piece (Elt Ideal) S1x1x4096x128 .f32)}
    (hL : Mid (v.read (Elt Ideal) (v.writes (Elt Ideal) f L)) Q (fun d => lev (p + 6) (x d)) fun d => lev (p + 7) (x d))
    (hQ : ∀ i, i < n → n * g + i < 32 ∧ ¬Q (n * g + i)) (h : ∀ i, i < n → Fit (off i))
    (ho : ∀ i, i < n → off i = ![0, 0, 128 * (n * g + i), 0]) :
    Mid (v.read (Elt Ideal) (v.writes (Elt Ideal) f
        (stored off (mergeGroup desc p (chunksAt v (v.writes (Elt Ideal) f L) off n h)) L n h)))
      (fun c => Q c ∨ n * g ≤ c ∧ c < n * g + n) (fun d => lev (p + 6) (x d)) fun d => lev (p + 7) (x d) := by
  refine mid_stored v f hL n h ho ?_
  subst hp
  exact isChunk_level hg (isChunk_chunksAt v _ h ho fun i hi => (hL _ (hQ i hi).1).2 (hQ i hi).2)

end

theorem stored_append (off : ℕ → Fin 4 → ℕ) (y : ℕ → FVec Ideal S128x128 .f32) (L L' : List (View.Piece (Elt Ideal) S1x1x4096x128 .f32))
    (n : ℕ) (h : ∀ i, i < n → Fit (off i)) : stored off y L n h ++ L' = stored off y (L ++ L') n h := by
  induction n with
  | zero => rfl
  | succ n ih => exact congrArg (storeAt (off n) (h n (Nat.lt_succ_self n)) (y n) :: ·) (ih _)

end Cert.Sorting

end
-- ==== Proof.BodyValue.lean ====
module

public import proofs.«01_k».proof.Proof.BodyStores
public import proofs.«01_k».proof.Proof.Contents

/-!
# What the body computes

Pass by pass: after the first two loops the block holds level 8 of the network, then 9, 10, 11, and at the end level 12
times the signs. The columns it starts from are those of the input block times the signs.
-/

@[expose] public section

set_option maxRecDepth 16384

noncomputable section

namespace Cert.Sorting

open Cert.KernelIdeal Cert.KernelIdeal.Gen
open Idealize.ShloMosaic Idealize.ShloMosaic.TcCoe

variable (c : Dev nD) (i : grid0.Coords)
  (arg2 : Memref sig .tc .vmem S1x1x4096x128 .f32) (harg2 : arg2.IsWhole) (arg3 : Memref sig .tc .vmem S8x128 .i32)
  (harg3 : arg3.IsWhole) (arg4 : Memref sig .tc .vmem S1x1x4096x128 .f32) (harg4 : arg4.IsWhole)
  (x0 : Vec Ideal S1x1x4096x128 .f32) (x1 : Vec Ideal S8x128 .i32) (f : BufTy.Contents (Elt Ideal) arg4.view.ty)

/-- The sign of a lane. -/
def signAt (x1 : Vec Ideal S8x128 .i32) (d : ℕ) : EReal := laneOf (signsOf (F := Ideal) (maskRow arg3 harg3 x1)) d

/-- The columns the network sorts: those of the input block, times the signs. -/
def signedColumns (x0 : Vec Ideal S1x1x4096x128 .f32) (x1 : Vec Ideal S8x128 .i32) (d r : ℕ) : EReal :=
  columns x0 d r * signAt arg3 harg3 x1 d

theorem isChunk_input {off : ℕ → Fin 4 → ℕ} {n q : ℕ} (h : ∀ i, i < n → Fit (off i))
    (ho : ∀ i, i < n → off i = ![0, 0, 128 * (q + i), 0]) (j : ℕ) (hj : j < n) :
    IsChunk (signed (signsOf (F := Ideal) (maskRow arg3 harg3 x1)) (chunksAt arg2.view (harg2.unread x0) off n h j))
      (signedColumns arg3 harg3 x0 x1) (q + j) :=
  isChunk_signed _ (isChunk_chunksAt arg2.view _ h ho (fun i _ k _ => by
    rw [harg2.read_unread]; exact (columns_apply x0 k).symm) j hj)

theorem pair11_eq : ∀ (k : Fin k0_t1_loop.trips) (i : Fin 2), pair11 k i.val = ![0, 0, 128 * (2 * (4 * k.val + 0) + i.val), 0] := by
  decide +kernel

theorem pair12_eq : ∀ (k : Fin k0_t1_loop.trips) (i : Fin 2), pair12 k i.val = ![0, 0, 128 * (2 * (4 * k.val + 2) + i.val), 0] := by
  decide +kernel

theorem pair21_eq : ∀ (k : Fin k0_t2_loop.trips) (i : Fin 2), pair21 k i.val = ![0, 0, 128 * (2 * (4 * k.val + 1) + i.val), 0] := by
  decide +kernel

theorem pair22_eq : ∀ (k : Fin k0_t2_loop.trips) (i : Fin 2), pair22 k i.val = ![0, 0, 128 * (2 * (4 * k.val + 3) + i.val), 0] := by
  decide +kernel

theorem group3_eq : ∀ (k : Fin k0_t3_loop.trips) (i : Fin 4), group3 k i.val = ![0, 0, 128 * (4 * (2 * k.val + 0) + i.val), 0] := by
  decide +kernel

theorem group4_eq : ∀ (k : Fin k0_t4_loop.trips) (i : Fin 4), group4 k i.val = ![0, 0, 128 * (4 * (2 * k.val + 1) + i.val), 0] := by
  decide +kernel

theorem group5_eq : ∀ (k : Fin k0_t5_loop.trips) (i : Fin 8), group5 k i.val = ![0, 0, 128 * (8 * (2 * k.val + 0) + i.val), 0] := by
  decide +kernel

theorem group6_eq : ∀ (k : Fin k0_t6_loop.trips) (i : Fin 8), group6 k i.val = ![0, 0, 128 * (8 * (2 * k.val + 1) + i.val), 0] := by
  decide +kernel

/-- After `k` trips of loop 1. -/
theorem mid_pairs_up (k : ℕ) (hk : k ≤ 4) :
    Mid (arg4.view.read (Elt Ideal) (arg4.view.writes (Elt Ideal) f (pb_k0_t1 Variants.none c none i arg2 harg2 arg3 harg3 arg4 harg4 (maskRow arg3 harg3 x1) (harg2.unread x0) k)))
      (fun c => (c % 8 = 0 ∨ c % 8 = 1 ∨ c % 8 = 4 ∨ c % 8 = 5) ∧ c / 8 < k) (columns (arg4.view.read (Elt Ideal) f))
      fun d => lev 8 (signedColumns arg3 harg3 x0 x1 d) := by
  induction k with
  | zero => exact (mid_start _ _).congr fun c hc => ⟨False.elim, fun h => by omega⟩
  | succ k ih =>
    have h := ih (Nat.le_of_succ_le hk)
    have ht : k < k0_t1_loop.trips := hk
    rw [pb_k0_t1_succ Variants.none c none i arg2 harg2 arg3 harg3 arg4 harg4 (maskRow arg3 harg3 x1) (harg2.unread x0) ⟨k, ht⟩]
    unfold tripL_k0_t1
    rw [trip1]
    rw [stored_append, stored_append, List.nil_append]
    have h1 := mid_stored arg4.view f h 2 (fit11 ⟨k, ht⟩) (fun i hi => pair11_eq ⟨k, ht⟩ ⟨i, hi⟩)
      (isChunk_sortPair (desc := false) (decide_eq_false (show _ by omega)) (isChunk_input arg2 harg2 arg3 harg3 x0 x1 (fit11 ⟨k, ht⟩)
        fun i hi => pair11_eq ⟨k, ht⟩ ⟨i, hi⟩))
    have h2 := mid_stored arg4.view f h1 2 (fit12 ⟨k, ht⟩) (fun i hi => pair12_eq ⟨k, ht⟩ ⟨i, hi⟩)
      (isChunk_sortPair (desc := false) (decide_eq_false (show _ by omega)) (isChunk_input arg2 harg2 arg3 harg3 x0 x1 (fit12 ⟨k, ht⟩)
        fun i hi => pair12_eq ⟨k, ht⟩ ⟨i, hi⟩))
    exact h2.congr fun c hc => by dsimp only; omega

/-- After `k` trips of loop 2. -/
theorem mid_pairs_down (k : ℕ) (hk : k ≤ 4) :
    Mid (arg4.view.read (Elt Ideal) (arg4.view.writes (Elt Ideal) f (pb_k0_t2 Variants.none c none i arg2 harg2 arg3 harg3 arg4 harg4 (maskRow arg3 harg3 x1) (harg2.unread x0) k
      ++ pb_k0_t1 Variants.none c none i arg2 harg2 arg3 harg3 arg4 harg4 (maskRow arg3 harg3 x1) (harg2.unread x0) k0_t1_loop.trips)))
      (fun c => (c % 8 = 0 ∨ c % 8 = 1 ∨ c % 8 = 4 ∨ c % 8 = 5) ∨ c / 8 < k) (columns (arg4.view.read (Elt Ideal) f))
      fun d => lev 8 (signedColumns arg3 harg3 x0 x1 d) := by
  induction k with
  | zero => exact (mid_pairs_up c i arg2 harg2 arg3 harg3 arg4 harg4 x0 x1 f 4 le_rfl).congr fun c hc => by omega
  | succ k ih =>
    have h := ih (Nat.le_of_succ_le hk)
    have ht : k < k0_t2_loop.trips := hk
    rw [pb_k0_t2_succ Variants.none c none i arg2 harg2 arg3 harg3 arg4 harg4 (maskRow arg3 harg3 x1) (harg2.unread x0) ⟨k, ht⟩]
    unfold tripL_k0_t2
    rw [trip2, List.append_assoc]
    rw [stored_append, stored_append, List.nil_append]
    have h1 := mid_stored arg4.view f h 2 (fit21 ⟨k, ht⟩) (fun i hi => pair21_eq ⟨k, ht⟩ ⟨i, hi⟩)
      (isChunk_sortPair (desc := true) (decide_eq_true (show _ by omega)) (isChunk_input arg2 harg2 arg3 harg3 x0 x1 (fit21 ⟨k, ht⟩)
        fun i hi => pair21_eq ⟨k, ht⟩ ⟨i, hi⟩))
    have h2 := mid_stored arg4.view f h1 2 (fit22 ⟨k, ht⟩) (fun i hi => pair22_eq ⟨k, ht⟩ ⟨i, hi⟩)
      (isChunk_sortPair (desc := true) (decide_eq_true (show _ by omega)) (isChunk_input arg2 harg2 arg3 harg3 x0 x1 (fit22 ⟨k, ht⟩)
        fun i hi => pair22_eq ⟨k, ht⟩ ⟨i, hi⟩))
    exact h2.congr fun c hc => by dsimp only; omega

/-- After `k` trips of loop 3. -/
theorem mid_fours_up (k : ℕ) (hk : k ≤ 4) :
    Mid (arg4.view.read (Elt Ideal) (arg4.view.writes (Elt Ideal) f (pb_k0_t3 Variants.none c none i arg2 harg2 arg3 harg3 arg4 harg4
        (arg4.view.writes (Elt Ideal) f (pairs c i arg2 harg2 arg3 harg3 arg4 harg4 x0 x1)) k
        ++ pairs c i arg2 harg2 arg3 harg3 arg4 harg4 x0 x1)))
      (fun c => c % 8 < 4 ∧ c / 8 < k) (fun d => lev 8 (signedColumns arg3 harg3 x0 x1 d))
      fun d => lev 9 (signedColumns arg3 harg3 x0 x1 d) := by
  induction k with
  | zero => exact ((mid_pairs_down c i arg2 harg2 arg3 harg3 arg4 harg4 x0 x1 f 4 le_rfl).next fun c hc => by omega).congr fun c hc => ⟨False.elim, fun h => by omega⟩
  | succ k ih =>
    have h := ih (Nat.le_of_succ_le hk)
    have ht : k < k0_t3_loop.trips := hk
    rw [pb_k0_t3_succ Variants.none c none i arg2 harg2 arg3 harg3 arg4 harg4 _ ⟨k, ht⟩]
    unfold tripL_k0_t3
    rw [trip3, ← View.writes_append, List.append_assoc, stored_append, List.nil_append]
    exact (mid_mergeGroup (p := 2) (n := 4) (g := 2 * k + 0) arg4.view f rfl (decide_eq_false (by omega)) h (fun i hi => by omega)
      (fit3 ⟨k, ht⟩) fun i hi => group3_eq ⟨k, ht⟩ ⟨i, hi⟩).congr fun c hc => by omega

/-- After `k` trips of loop 4. -/
theorem mid_fours_down (k : ℕ) (hk : k ≤ 4) :
    Mid (arg4.view.read (Elt Ideal) (arg4.view.writes (Elt Ideal) f (pb_k0_t4 Variants.none c none i arg2 harg2 arg3 harg3 arg4 harg4
        (arg4.view.writes (Elt Ideal) f (fours' c i arg2 harg2 arg3 harg3 arg4 harg4 x0 x1 f)) k
        ++ fours' c i arg2 harg2 arg3 harg3 arg4 harg4 x0 x1 f)))
      (fun c => c % 8 < 4 ∨ c / 8 < k) (fun d => lev 8 (signedColumns arg3 harg3 x0 x1 d))
      fun d => lev 9 (signedColumns arg3 harg3 x0 x1 d) := by
  induction k with
  | zero => exact (mid_fours_up c i arg2 harg2 arg3 harg3 arg4 harg4 x0 x1 f 4 le_rfl).congr fun c hc => by omega
  | succ k ih =>
    have h := ih (Nat.le_of_succ_le hk)
    have ht : k < k0_t4_loop.trips := hk
    rw [pb_k0_t4_succ Variants.none c none i arg2 harg2 arg3 harg3 arg4 harg4 _ ⟨k, ht⟩]
    unfold tripL_k0_t4
    rw [trip4, ← View.writes_append, List.append_assoc, stored_append, List.nil_append]
    exact (mid_mergeGroup (p := 2) (n := 4) (g := 2 * k + 1) arg4.view f rfl (decide_eq_true (by omega)) h (fun i hi => by omega)
      (fit4 ⟨k, ht⟩) fun i hi => group4_eq ⟨k, ht⟩ ⟨i, hi⟩).congr fun c hc => by omega

/-- After `k` trips of loop 5. -/
theorem mid_eights_up (k : ℕ) (hk : k ≤ 2) :
    Mid (arg4.view.read (Elt Ideal) (arg4.view.writes (Elt Ideal) f (pb_k0_t5 Variants.none c none i arg2 harg2 arg3 harg3 arg4 harg4
        (arg4.view.writes (Elt Ideal) f (fours c i arg2 harg2 arg3 harg3 arg4 harg4 x0 x1 f)) k
        ++ fours c i arg2 harg2 arg3 harg3 arg4 harg4 x0 x1 f)))
      (fun c => c % 16 < 8 ∧ c / 16 < k) (fun d => lev 9 (signedColumns arg3 harg3 x0 x1 d))
      fun d => lev 10 (signedColumns arg3 harg3 x0 x1 d) := by
  induction k with
  | zero => exact ((mid_fours_down c i arg2 harg2 arg3 harg3 arg4 harg4 x0 x1 f 4 le_rfl).next fun c hc => by omega).congr fun c hc => ⟨False.elim, fun h => by omega⟩
  | succ k ih =>
    have h := ih (Nat.le_of_succ_le hk)
    have ht : k < k0_t5_loop.trips := hk
    rw [pb_k0_t5_succ Variants.none c none i arg2 harg2 arg3 harg3 arg4 harg4 _ ⟨k, ht⟩]
    unfold tripL_k0_t5
    rw [trip5, ← View.writes_append, List.append_assoc, stored_append, List.nil_append]
    exact (mid_mergeGroup (p := 3) (n := 8) (g := 2 * k + 0) arg4.view f rfl (decide_eq_false (by omega)) h (fun i hi => by omega)
      (fit5 ⟨k, ht⟩) fun i hi => group5_eq ⟨k, ht⟩ ⟨i, hi⟩).congr fun c hc => by omega

/-- After `k` trips of loop 6. -/
theorem mid_eights_down (k : ℕ) (hk : k ≤ 2) :
    Mid (arg4.view.read (Elt Ideal) (arg4.view.writes (Elt Ideal) f (pb_k0_t6 Variants.none c none i arg2 harg2 arg3 harg3 arg4 harg4
        (arg4.view.writes (Elt Ideal) f (eights' c i arg2 harg2 arg3 harg3 arg4 harg4 x0 x1 f)) k
        ++ eights' c i arg2 harg2 arg3 harg3 arg4 harg4 x0 x1 f)))
      (fun c => c % 16 < 8 ∨ c / 16 < k) (fun d => lev 9 (signedColumns arg3 harg3 x0 x1 d))
      fun d => lev 10 (signedColumns arg3 harg3 x0 x1 d) := by
  induction k with
  | zero => exact (mid_eights_up c i arg2 harg2 arg3 harg3 arg4 harg4 x0 x1 f 2 le_rfl).congr fun c hc => by omega
  | succ k ih =>
    have h := ih (Nat.le_of_succ_le hk)
    have ht : k < k0_t6_loop.trips := hk
    rw [pb_k0_t6_succ Variants.none c none i arg2 harg2 arg3 harg3 arg4 harg4 _ ⟨k, ht⟩]
    unfold tripL_k0_t6
    rw [trip6, ← View.writes_append, List.append_assoc, stored_append, List.nil_append]
    exact (mid_mergeGroup (p := 3) (n := 8) (g := 2 * k + 1) arg4.view f rfl (decide_eq_true (by omega)) h (fun i hi => by omega)
      (fit6 ⟨k, ht⟩) fun i hi => group6_eq ⟨k, ht⟩ ⟨i, hi⟩).congr fun c hc => by omega

/-- The chunks merged by sixteen, up, … -/
theorem isChunk_sixteens_up (j : ℕ) (hj : j < 16) :
    IsChunk (mergeGroup false 4 (chunksAt arg4.view (arg4.view.writes (Elt Ideal) f (eights c i arg2 harg2 arg3 harg3 arg4 harg4 x0 x1 f)) offset 16 fitLow) j)
      (fun d => lev 11 (signedColumns arg3 harg3 x0 x1 d)) (0 + j) := by
  have h := (mid_eights_down c i arg2 harg2 arg3 harg3 arg4 harg4 x0 x1 f 2 le_rfl).next
    (ψ := fun d => lev 11 (signedColumns arg3 harg3 x0 x1 d)) fun c hc => by omega
  exact isChunk_level (p := 4) (g := 0) (decide_eq_false (by omega)) (isChunk_chunksAt (q := 0) arg4.view _ fitLow
    (fun i _ => congrArg (fun q => ![0, 0, 128 * q, 0]) (Nat.zero_add i).symm)
    fun i (hi : i < 16) => (h (0 + i) (by omega)).2 id) j hj

/-- … and stored, over whatever the block held; … -/
theorem mid_sixteens_up (f' : BufTy.Contents (Elt Ideal) arg4.view.ty) (φ : ℕ → ℕ → EReal)
    (h : Mid (arg4.view.read (Elt Ideal) (arg4.view.writes (Elt Ideal) f' (eights c i arg2 harg2 arg3 harg3 arg4 harg4 x0 x1 f))) (fun _ => False)
      φ fun d => lev 11 (signedColumns arg3 harg3 x0 x1 d)) :
    Mid (arg4.view.read (Elt Ideal) (arg4.view.writes (Elt Ideal) f' (sixteens' c i arg2 harg2 arg3 harg3 arg4 harg4 x0 x1 f)))
      (fun c => c < 16) φ fun d => lev 11 (signedColumns arg3 harg3 x0 x1 d) :=
  (mid_stored (q := 0) arg4.view f' h 16 fitLow (fun i _ => congrArg (fun q => ![0, 0, 128 * q, 0]) (Nat.zero_add i).symm)
    (isChunk_sixteens_up c i arg2 harg2 arg3 harg3 arg4 harg4 x0 x1 f)).congr fun c hc => by simp only [false_or]; omega

/-- … merged by sixteen, down, … -/
theorem isChunk_sixteens_down (j : ℕ) (hj : j < 16) :
    IsChunk (mergeGroup true 4 (chunksAt arg4.view (arg4.view.writes (Elt Ideal) f (sixteens' c i arg2 harg2 arg3 harg3 arg4 harg4 x0 x1 f))
      (fun j => offset (16 + j)) 16 fitHigh) j)
      (fun d => lev 11 (signedColumns arg3 harg3 x0 x1 d)) (16 + j) := by
  have h := mid_sixteens_up c i arg2 harg2 arg3 harg3 arg4 harg4 x0 x1 f f _
    ((mid_eights_down c i arg2 harg2 arg3 harg3 arg4 harg4 x0 x1 f 2 le_rfl).next fun c hc => by omega)
  exact isChunk_level (p := 4) (g := 1) (decide_eq_true (by omega)) (isChunk_chunksAt (q := 16) arg4.view _ fitHigh
    (fun i _ => rfl) fun i (hi : i < 16) => (h (16 + i) (by omega)).2 (by omega)) j hj

/-- … and stored. -/
theorem mid_sixteens_down (f' : BufTy.Contents (Elt Ideal) arg4.view.ty) (φ : ℕ → ℕ → EReal)
    (h : Mid (arg4.view.read (Elt Ideal) (arg4.view.writes (Elt Ideal) f' (eights c i arg2 harg2 arg3 harg3 arg4 harg4 x0 x1 f))) (fun _ => False)
      φ fun d => lev 11 (signedColumns arg3 harg3 x0 x1 d)) :
    Mid (arg4.view.read (Elt Ideal) (arg4.view.writes (Elt Ideal) f' (sixteens c i arg2 harg2 arg3 harg3 arg4 harg4 x0 x1 f)))
      (fun _ => True) φ fun d => lev 11 (signedColumns arg3 harg3 x0 x1 d) :=
  (mid_stored (q := 16) arg4.view f' (mid_sixteens_up c i arg2 harg2 arg3 harg3 arg4 harg4 x0 x1 f f' φ h) 16 fitHigh (fun i _ => rfl)
    (isChunk_sixteens_down c i arg2 harg2 arg3 harg3 arg4 harg4 x0 x1 f)).congr fun c hc => by simp only [iff_true]; omega

/-- All the chunks merged. -/
theorem isChunk_last (j : ℕ) (hj : j < 32) :
    IsChunk (mergeGroup false 5 (chunksAt arg4.view (arg4.view.writes (Elt Ideal) arg4.view.junk
        (sixteens c i arg2 harg2 arg3 harg3 arg4 harg4 x0 x1 f)) offset 32 fitOffset) j)
      (fun d => lev 12 (signedColumns arg3 harg3 x0 x1 d)) (0 + j) := by
  have h := mid_sixteens_down c i arg2 harg2 arg3 harg3 arg4 harg4 x0 x1 f arg4.view.junk _ (mid_start _ _)
  exact isChunk_level (p := 5) (g := 0) (decide_eq_false (by omega)) (isChunk_chunksAt (q := 0) arg4.view _ fitOffset
    (fun i _ => congrArg (fun q => ![0, 0, 128 * q, 0]) (Nat.zero_add i).symm)
    fun i (hi : i < 32) => (h (0 + i) (by omega)).1 trivial) j hj

/-- At the end every chunk holds the sorted columns, times the signs. -/
theorem mid_all :
    Mid (arg4.view.read (Elt Ideal) (arg4.view.writes (Elt Ideal) f (allStores c i arg2 harg2 arg3 harg3 arg4 harg4 x0 x1 f)))
      (fun _ => True) (columns (arg4.view.read (Elt Ideal) (arg4.view.writes (Elt Ideal) f (sixteens c i arg2 harg2 arg3 harg3 arg4 harg4 x0 x1 f))))
      fun d r => lev 12 (signedColumns arg3 harg3 x0 x1 d) r * signAt arg3 harg3 x1 d :=
  (mid_stored (q := 0) arg4.view f (mid_start _ _) 32 fitOffset
    (fun i _ => congrArg (fun q => ![0, 0, 128 * q, 0]) (Nat.zero_add i).symm)
    fun j hj => isChunk_signed _ (isChunk_last c i arg2 harg2 arg3 harg3 arg4 harg4 x0 x1 f j hj)).congr fun c hc => by
      simp only [false_or, iff_true]; omega

/-- What the body leaves in its output, at row `r` and lane `d`: row `r` of the sorted column `d`, times the sign. -/
theorem bodyRun_apply (j : S1x1x4096x128.Idx) :
    arg4.view.read (Elt Ideal) ((bodyRun c i arg2 harg2 arg3 harg3 arg4 harg4 x0 x1).1 f) j
      = lev 12 (signedColumns arg3 harg3 x0 x1 (j 3).val) (j 2).val * signAt arg3 harg3 x1 (j 3).val := by
  have h2 : (j 2).val < 4096 := (j 2).isLt
  rw [bodyRun_eq]
  exact (mid_all c i arg2 harg2 arg3 harg3 arg4 harg4 x0 x1 f _ (show (j 2).val / 128 < 32 by omega)).1 trivial j rfl

end Cert.Sorting

end
-- ==== Proof.Point.lean ====
module

public import proofs.«01_k».proof.Proof.BodyValue
public import Idealize.ShloMosaic.Lib.Claim

/-!
# One grid point

What the body leaves in its output block depends on its two input blocks alone, and the body's triple says so. From this
the launch: every execution ends, with each result block at that value and every semaphore counter at zero.
-/

@[expose] public section

set_option maxRecDepth 16384

noncomputable section

namespace Cert.Sorting

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- The first row of a mask. -/
def firstRow (x1 : Vec Ideal S8x128 .i32) : Vec Ideal S1x128 .i32 := fun k =>
  x1 (fun | 0 => (⟨0, by decide⟩ : Fin 8) | 1 => (⟨(k 1).val, (k 1).isLt⟩ : Fin 128))

/-- The sign of lane `d` under the mask `x1`: a mask's first row says which lanes are negated. -/
def sgn (x1 : Vec Ideal S8x128 .i32) (d : ℕ) : EReal := laneOf (signsOf (F := Ideal) (firstRow x1)) d

/-- The row of the mask the body reads is the first, whichever buffer holds the mask. -/
theorem maskRow_eq (arg3 : Memref sig .tc .vmem S8x128 .i32) (harg3 : arg3.IsWhole) (x1 : Vec Ideal S8x128 .i32) :
    maskRow arg3 harg3 x1 = firstRow x1 := funext fun k => by
  unfold maskRow firstRow
  rw [View.readAt_apply, harg3.read_unread]
  refine congrArg x1 (funext fun a => Fin.ext ?_)
  match a with
  | ⟨0, _⟩ =>
    have h : (k 0).val < 1 := (k 0).isLt
    show 0 + 1 * (k 0).val = 0
    omega
  | ⟨1, _⟩ =>
    show 0 + 1 * (k 1).val = (k 1).val
    omega

/-- What one point leaves in its block, from the blocks it reads: each column times its sign, sorted, times the sign. -/
def pointValue (x0 : Vec Ideal S1x1x4096x128 .f32) (x1 : Vec Ideal S8x128 .i32) : Vec Ideal S1x1x4096x128 .f32 := fun j =>
  lev 12 (fun r => columns x0 (j 3).val r * sgn x1 (j 3).val) (j 2).val * sgn x1 (j 3).val

/-- The body's output, read as a block, is `pointValue` of its input blocks. -/
theorem bodyRun_read (c : Dev nD) (i : grid0.Coords)
    (arg2 : Memref sig .tc .vmem S1x1x4096x128 .f32) (harg2 : arg2.IsWhole) (arg3 : Memref sig .tc .vmem S8x128 .i32)
    (harg3 : arg3.IsWhole) (arg4 : Memref sig .tc .vmem S1x1x4096x128 .f32) (harg4 : arg4.IsWhole)
    (x0 : Vec Ideal S1x1x4096x128 .f32) (x1 : Vec Ideal S8x128 .i32) (f : BufTy.Contents (Elt Ideal) arg4.view.ty) :
    arg4.view.read (Elt Ideal) ((bodyRun c i arg2 harg2 arg3 harg3 arg4 harg4 x0 x1).1 f) = pointValue x0 x1 := funext fun j => by
  rw [bodyRun_apply]
  unfold pointValue sgn signedColumns signAt
  rw [maskRow_eq]

variable (m : (ℓ : Loc nD τ sig) → Buf (Elt Ideal) ℓ) (ρ : Dev nD → PrngReg)

/-- The proof data of the pipeline on core `c`: the inputs' buffers keep their blocks, the output's holds `pointValue` of them. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => pointValue (iblk m c 0 t) (iblk m c 1 t)
  Φ _ := Pipeline.ΦA spec0 c
  q _ := fullShare
  owed _ := 0

theorem dats_A (c : Dev nD) (w : Fin cfg0.W) : (dats m 0 c).A w = V m c (Pipeline.arrRef spec0 w) := by
  dsimp only [dats]

theorem after_zero (c : Dev nD) (t : Fin cfg0.N) : (dats m 0 c).after 0 t = iblk m c 0 t := by dsimp only [dats]
theorem after_one (c : Dev nD) (t : Fin cfg0.N) : (dats m 0 c).after 1 t = iblk m c 1 t := by dsimp only [dats]
theorem after_two (c : Dev nD) (t : Fin cfg0.N) :
    (dats m 0 c).after 2 t = pointValue (iblk m c 0 t) (iblk m c 1 t) := by dsimp only [dats]

theorem before_zero (c : Dev nD) (t : Fin cfg0.N) (d) : (dats m 0 c).before 0 t d = iblk m c 0 t :=
  before0_0_of m (dats m 0 c) (dats_A m c 0) (after_zero m c) t d
theorem before_one (c : Dev nD) (t : Fin cfg0.N) (d) : (dats m 0 c).before 1 t d = iblk m c 1 t :=
  before0_1_of m (dats m 0 c) (dats_A m c 1) (after_one m c) t d

/-- What the body is called with at point `t`, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: its inputs hold their blocks, and its output ends at `pointValue` of them. -/
theorem sound_point (c : Dev nD) (t : Fin cfg0.N) :
    pointPre m c t ⊢ wp frame (wpE (defs₀ (F := Ideal)) Variants.none c none) Set.univ (bodyAt0 t) (fun _ => pointPost m c t) := by
  unfold pointPre pointPost bodyAt0
  simp only [before_zero, before_one]
  rw [show (dats m 0 c).Φ t.succ = (dats m 0 c).Φ t.castSucc from rfl,
    show (dats m 0 c).owesAt () t.succ = (dats m 0 c).owesAt () t.castSucc from rfl,
    after_zero, after_one, after_two]
  iintro ⟨HΦ, Ho, ⟨%d0, H0⟩, ⟨%d1, H1⟩, ⟨%d2, H2⟩⟩
  ihave H2' := (show owns (c : Thread nD τ) (st0_2 t) fullShare ((dats m 0 c).before 2 t d2)
    ⊢ iprop(∃ f2, ((st0_2 t).view.loc (c : Thread nD τ) ↦[(st0_2 t).view.set]{fullShare} f2) : sProp 𝕄) from by
      unfold owns; iintro ⟨%f, %hf, H⟩; iexists _; iexact H) $$ H2
  icases H2' with ⟨%f2, H2⟩
  iapply ((bodyRun c (grid0.coords t) (st0_0 t) (hstage0_0 ((cfg0.slots t 0).cast nbuf0_0)) (st0_1 t) (hstage0_1 ((cfg0.slots t 1).cast nbuf0_1)) (st0_2 t)
      (hstage0_2 ((cfg0.slots t 2).cast nbuf0_2)) (iblk m c 0 t) (iblk m c 1 t)).2 Set.univ f2 _)
  isplitl [H0]; · iexact H0
  isplitl [H1]; · iexact H1
  isplitl [H2]; · iexact H2
  iintro ⟨H0, H1, H2⟩
  isplitl [HΦ]; · iexact HΦ
  isplitl [Ho]; · iexact Ho
  isplitl [H0]; · iexact H0
  isplitl [H1]; · iexact H1
  unfold owns
  iexists _
  isplitr
  · ipureintro
    exact bodyRun_read c (grid0.coords t) (st0_0 t) (hstage0_0 ((cfg0.slots t 0).cast nbuf0_0)) (st0_1 t) (hstage0_1 ((cfg0.slots t 1).cast nbuf0_1)) (st0_2 t)
      (hstage0_2 ((cfg0.slots t 2).cast nbuf0_2)) (iblk m c 0 t) (iblk m c 1 t) f2
  iexact H2

theorem point_row (t : Fin cfg0.N) :
    defs₀ (F := Ideal) .tc cfg0.body (cfg0.bodyArgs t (cfg0.slots t)) = bodyAt0 t := by
  unfold defs₀; rw [Defs.onTc_tc]

/-- The body's obligation at every point. -/
theorem point_obligation (c : Dev nD) : BodyObligation (dats m 0 c) (defs₀ (F := Ideal)) Variants.none () Set.univ := fun t => by
  rw [bigSep_W0, bigSep_W0, point_row]
  exact triple_restated (sound_point m c t) rfl .rfl fun _ => .rfl

set_option backward.isDefEq.respectTransparency.types false in
/-- Every execution ends; then each array holds what the points wrote back, and every semaphore counter is zero. -/
theorem run_quiescent : θ_run defs (onTc (τ := τ) (main (F := Ideal))) (s₀ m ρ) (fun r =>
    Pipeline.FramePost cfgs (dats m) 0 (V m) r ∧ r.2.sem = fun _ => 0) :=
  Pipeline.θ_run_frame (Q' := _) cfgs (dats m) (0 : Fin 1) launch0 defs₀ Variants.none m ρ main
    (hbody := fun c => (point_obligation m c).loose) (hshare := fun c => (dats m 0 c).share_full fun _ => rfl)
    (howed := fun _ _ => rfl) (V := V m) (hmain := hmain m Variants.none) (hA := dats_A m) (hΦ := fun _ _ => rfl)

/-- The idealized kernel's frame: every execution ends with the arguments unchanged and every semaphore counter at zero. -/
theorem frame_ideal : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (dats_A m) ((θ_run defs _ _).mono (fun _ h => h.1) (run_quiescent m ρ)))
    ((θ_run defs _ _).mono (fun _ h => h.2) (run_quiescent m ρ))

end Cert.Sorting

end
-- ==== Proof.Scatter.lean ====
module

public import Idealize.ShloMosaic.PureOps.ShapeOps

/-!
# A scatter that overwrites

A scatter whose body returns the update, at one place: if every update that lands there carries the same value, the place ends at
that value when some update lands there, and keeps what it had otherwise.
-/

@[expose] public section

noncomputable section

namespace Cert.Sorting

open Idealize.ShloMosaic

/-- Overwriting step by step: each step `n` writes `upd n` at the place `land n`, if any, and keeps the rest. -/
theorem foldl_overwrite {ι κ α : Type} (land : ι → Option κ) (upd : ι → α) (step : (κ → α) → ι → κ → α)
    (hat : ∀ r n k, land n = some k → step r n k = upd n) (hoff : ∀ r n k, land n ≠ some k → step r n k = r k)
    (i : κ) (v : α) (hv : ∀ n, land n = some i → upd n = v) :
    ∀ (L : List ι) (x : κ → α),
      ((∃ n ∈ L, land n = some i) → L.foldl step x i = v) ∧ ((¬ ∃ n ∈ L, land n = some i) → L.foldl step x i = x i)
  | [], x => ⟨fun ⟨_, h, _⟩ => (List.not_mem_nil h).elim, fun _ => rfl⟩
  | n :: L, x => by
    have ih := foldl_overwrite land upd step hat hoff i v hv L
    rw [List.foldl_cons]
    by_cases hL : ∃ n ∈ L, land n = some i
    · exact ⟨fun _ => (ih _).1 hL, fun h => (h (hL.imp fun _ h => ⟨List.mem_cons_of_mem _ h.1, h.2⟩)).elim⟩
    · rw [(ih _).2 hL]
      by_cases hn : land n = some i
      · exact ⟨fun _ => (hat x n i hn).trans (hv n hn), fun h => (h ⟨n, List.mem_cons_self, hn⟩).elim⟩
      · refine ⟨fun ⟨k, hk, e⟩ => ?_, fun _ => hoff x n i hn⟩
        rcases List.mem_cons.mp hk with rfl | hk
        · exact (hn e).elim
        · exact (hL ⟨k, hk, e⟩).elim

variable {s si u : Shape} {w : ℕ} {α : Type}

/-- One place after an overwriting scatter, when all updates that land there carry `v`. -/
theorem scatter_overwrite (d : ScatterDims s si u) (x : s.Idx → α) (idx : IVec si w) (upd : u.Idx → α) (i : s.Idx) (v : α)
    (hv : ∀ j, d.resultIdx? j idx = some i → upd j = v) :
    ((∃ j, d.resultIdx? j idx = some i) → Host.scatter d (fun _ b => b) x idx upd i = v) ∧
    ((¬ ∃ j, d.resultIdx? j idx = some i) → Host.scatter d (fun _ b => b) x idx upd i = x i) := by
  unfold Host.scatter
  have h := foldl_overwrite (fun n => d.resultIdx? (u.rowMajor.symm n) idx) (fun n => upd (u.rowMajor.symm n))
    (fun r n => match d.resultIdx? (u.rowMajor.symm n) idx with
      | some k => fun i' => if i' = k then (fun _ b => b) (r k) (upd (u.rowMajor.symm n)) else r i'
      | none => r)
    (fun r n k hk => by dsimp only at hk ⊢; rw [hk]; exact if_pos rfl)
    (fun r n k hk => by
      dsimp only at hk ⊢
      cases hl : d.resultIdx? (u.rowMajor.symm n) idx with
      | none => rfl
      | some k' => exact if_neg fun h => hk (by rw [hl, h]))
    i v (fun n => hv _) (List.finRange u.numel) x
  refine ⟨fun ⟨j, hj⟩ => ?_, fun hn => ?_⟩
  · exact h.1 ⟨u.rowMajor j, List.mem_finRange _, by rw [Equiv.symm_apply_apply]; exact hj⟩
  · exact h.2 fun ⟨n, _, e⟩ => hn ⟨_, e⟩

end Cert.Sorting

end
-- ==== Proof.Mask.lean ====
module

public import proofs.«01_k».proof.Proof.Point
public import proofs.«01_k».proof.Proof.Scatter
public import Idealize.ShloMosaic.Lib.Routing.OpsPair
public import Idealize.ShloMosaic.Lib.StableHlo.Run
public import Idealize.ShloMosaic.Lib.IdealHost

/-!
# The mask

The host marks, in the first row of a mask of zeros, every lane that some wrapped index word names. Under that mask a lane's
sign is minus one when it is named and one when it is not.
-/

@[expose] public section

noncomputable section

namespace Cert.Sorting

open Cert.KernelIdeal Cert.KernelIdeal.Gen
open Idealize.ShloMosaic Idealize.ShloMosaic.TcCoe Idealize.ShloMosaic.StableHlo

/-- The index words, each below zero moved up by the number of lanes. -/
def wrapped (a : IVec S64 32) : IVec S64 32 :=
  select (cmpi .slt a (broadcastInDim S64 ![] bcast_S_S64 (constantI S_ 32 0#32)))
    (addi a (broadcastInDim S64 ![] bcast_S_S64 (constantI S_ 32 128#32))) a

/-- Lane `d` is named: some word of `w`, read signed, is `d`. -/
def Named (w : IVec S64 32) (d : ℕ) : Prop := ∃ n : S64.Idx, (w n).toInt = (d : ℤ)

/-- The positions the host writes: row zero, and the lane each word of `w` names. -/
def positions (w : IVec S64 32) : IVec S64x2 32 :=
  concatenate S64x2 1 [⟨S64x1, broadcastInDim S64x1 ![0] bcast_S64_S64x1_0 (broadcastInDim S64 ![] bcast_S_S64 (constantI S_ 32 0#32))⟩,
    ⟨S64x1, broadcastInDim S64x1 ![0] bcast_S64_S64x1_0 w⟩] concatenates_S64x1_S64x1_S64x2_d1

/-- The mask the host builds. -/
def maskOf (w : IVec S64 32) : IVec S8x128 32 :=
  Host.scatter scatter_S8x128_S64x2_S64_n_01_01_1 (fun _ b => b) (broadcastInDim S8x128 ![] bcast_S_S8x128 (constantI S_ 32 0#32))
    (positions w) (broadcastInDim S64 ![] bcast_S_S64 (constantI S_ 32 1#32))

/-- The launch finds that mask, of the index words it was given. -/
theorem V_mask (m : (ℓ : Loc nD τ sig) → Buf (Elt Ideal) ℓ) (c : Dev nD) :
    V (F := Ideal) m c main_call0_v12 = maskOf (wrapped (m ((c.tc : Thread nD τ).loc main_arg3))) := by
  unfold maskOf positions wrapped V hostOps0
  simp only [TRef.nullary, TRef.unary, TRef.binary, TRef.ternary, TRef.toBuf, TRef.ofBuf, cast_eq]
  after_results <;> rfl

/-- The index of a pair's component. -/
def pairAt (n : S64.Idx) (k : Fin 2) : S64x2.Idx := fun | 0 => (n 0 : Fin 64) | 1 => (k : Fin 2)

/-- The index of a word in a single column. -/
def lone (n : S64.Idx) : S64x1.Idx := fun | 0 => (n 0 : Fin 64) | 1 => (0 : Fin 1)

/-- A position's row is zero. -/
theorem positions_row (w : IVec S64 32) (n : S64.Idx) : positions w (pairAt n 0) = 0#32 := by
  unfold positions
  refine (concatenate_pair_apply_left (t := S64x2) (s₁ := S64x1) (s₂ := S64x1) 1 _ _ _ (pairAt n 0) rfl (lone n) (fun b => ?_)).trans ?_
  · match b with
    | 0 => rfl
    | 1 => rfl
  · rfl

/-- A position's lane is the word. -/
theorem positions_lane (w : IVec S64 32) (n : S64.Idx) : positions w (pairAt n 1) = w n := by
  unfold positions
  refine (concatenate_pair_apply_right (t := S64x2) (s₁ := S64x1) (s₂ := S64x1) 1 _ _ _ (pairAt n 1) rfl rfl (lone n) (fun b hb => ?_) ?_).trans ?_
  · match b with
    | 0 => rfl
    | 1 => exact (hb rfl).elim
  · rfl
  · refine broadcastInDim_apply _ _ _ _ n fun a => ?_
    match a with
    | 0 => rfl

/-- Update `n` lands on row `r` and lane `d` exactly when the row is zero and its word names the lane. -/
theorem mask_lands (w : IVec S64 32) (n : S64.Idx) (i : S8x128.Idx) :
    scatter_S8x128_S64x2_S64_n_01_01_1.resultIdx? n (positions w) = some i ↔ (i 0).val = 0 ∧ (w n).toInt = ((i 1).val : ℤ) := by
  rw [Routing.resultIdx?_eq_some]
  have h0 : scatter_S8x128_S64x2_S64_n_01_01_1.start n (positions w) 0 = (positions w (pairAt n 0)).toInt := by
    unfold ScatterDims.start
    rw [dif_pos (by decide)]
    refine congrArg (fun k => (positions w k).toInt) (funext fun b => ?_)
    match b with
    | 0 => rfl
    | 1 => rfl
  have h1 : scatter_S8x128_S64x2_S64_n_01_01_1.start n (positions w) 1 = (positions w (pairAt n 1)).toInt := by
    unfold ScatterDims.start
    rw [dif_pos (by decide)]
    refine congrArg (fun k => (positions w k).toInt) (funext fun b => ?_)
    match b with
    | 0 => rfl
    | 1 => rfl
  have hw : ∀ a, scatter_S8x128_S64x2_S64_n_01_01_1.window n a = 0 := fun a => by
    unfold ScatterDims.window
    rw [dif_neg (by revert a; decide)]
  rw [positions_row] at h0
  rw [positions_lane] at h1
  constructor
  · intro h
    have e0 := h 0
    have e1 := h 1
    rw [h0, hw] at e0
    rw [h1, hw] at e1
    refine ⟨?_, by simpa using e1⟩
    have : (0 : ℤ) = ((i 0).val : ℤ) := by simpa using e0
    exact_mod_cast this.symm
  · rintro ⟨e0, e1⟩ a
    rw [hw]
    match a with
    | 0 => rw [h0, e0]; rfl
    | 1 => rw [h1, e1]; exact add_zero _

/-- The mask's first row: one at a named lane, zero at the rest. -/
theorem maskOf_row (w : IVec S64 32) (i : S8x128.Idx) (hi : (i 0).val = 0) :
    (Named w (i 1).val → maskOf w i = 1#32) ∧ (¬ Named w (i 1).val → maskOf w i = 0#32) := by
  have h := scatter_overwrite scatter_S8x128_S64x2_S64_n_01_01_1 (broadcastInDim S8x128 ![] bcast_S_S8x128 (constantI S_ 32 0#32))
    (positions w) (broadcastInDim S64 ![] bcast_S_S64 (constantI S_ 32 1#32)) i 1#32 (fun _ _ => rfl)
  refine ⟨fun ⟨n, hn⟩ => h.1 ⟨n, (mask_lands w n i).2 ⟨hi, hn⟩⟩, fun hn => (h.2 fun ⟨n, e⟩ => hn ⟨n, ((mask_lands w n i).1 e).2⟩).trans rfl⟩

/-- The two signs' words are minus one and one. -/
theorem sign_words : (Scalar.ofBits (F := Ideal) .f32 0xBF800000#32 : EReal) = -1 ∧ (Scalar.ofBits (F := Ideal) .f32 0x3F800000#32 : EReal) = 1 := by
  constructor
  · show Ideal.ofBits .f32 0xBF800000#32 = -1
    simp [Ideal.ofBits, Ideal.ieee, -EReal.coe_mul]
    norm_num
  · show Ideal.ofBits .f32 0x3F800000#32 = 1
    simp [Ideal.ofBits, Ideal.ieee, -EReal.coe_mul]
    norm_num

/-- The sign of a lane under the mask. -/
theorem sgn_maskOf (w : IVec S64 32) (d : ℕ) (hd : d < 128) :
    (Named w d → sgn (maskOf w) d = -1) ∧ (¬ Named w d → sgn (maskOf w) d = 1) := by
  have e : sgn (maskOf w) d = Scalar.select (IntOp.cmpi .ne (maskOf w (fun | 0 => (⟨0, by decide⟩ : Fin 8) | 1 => (⟨d, hd⟩ : Fin 128))) 0#32)
      (Scalar.ofBits (F := Ideal) .f32 0xBF800000#32 : EReal) (Scalar.ofBits (F := Ideal) .f32 0x3F800000#32) := by
    unfold sgn laneOf
    rw [dif_pos hd]
    unfold signsOf k0_pay613
    rw [shapeCast_self]
    rfl
  have h := maskOf_row w (fun | 0 => (⟨0, by decide⟩ : Fin 8) | 1 => (⟨d, hd⟩ : Fin 128)) rfl
  refine ⟨fun hn => ?_, fun hn => ?_⟩
  · rw [e, h.1 hn]
    exact sign_words.1
  · rw [e, h.2 hn]
    exact sign_words.2

end Cert.Sorting

end
-- ==== Proof.Reference.lean ====
module

public import proofs.«01_k».proof.Proof.Order
public import proofs.«01_k».proof.Proof.Mask

/-!
# What the reference returns

Column by column: the column sorted, and, where the lane is named, the sorted column read backwards. In terms of the network:
its last level, of the column times the lane's sign, times the sign again.
-/

@[expose] public section

noncomputable section

namespace Cert.Sorting

open Cert.ReferenceIdeal Cert.ReferenceIdeal.Gen
open Idealize.ShloMosaic

/-- The column of the array through an index, as a function of the row number. -/
def colOf (v : Vec Ideal S2x16x4096x128 .f32) (j : S2x16x4096x128.Idx) (r : ℕ) : EReal :=
  if h : r < 4096 then v (j.along 2 ⟨r, h⟩) else 0

/-- A column does not depend on the row of the index it goes through. -/
theorem colOf_along (v : Vec Ideal S2x16x4096x128 .f32) (j : S2x16x4096x128.Idx) (k : Fin 4096) : colOf v (j.along 2 k) = colOf v j :=
  funext fun r => by
    unfold colOf
    by_cases h : r < 4096
    · rw [dif_pos h, dif_pos h]
      exact congrArg v (Function.update_idem ..)
    · rw [dif_neg h, dif_neg h]

open Classical in
/-- The sign of a lane: minus one when it is named, one when it is not. -/
def signOf (w : IVec S64 32) (d : ℕ) : EReal := if Named w d then -1 else 1

/-- What both programs return at an index: the last level of the network on the signed column, signed again. -/
def expected (v : Vec Ideal S2x16x4096x128 .f32) (w : IVec S64 32) : Vec Ideal S2x16x4096x128 .f32 := fun j =>
  lev 12 (fun r => colOf v j r * signOf w (j 3).val) (j 2).val * signOf w (j 3).val

/-- The array with its columns sorted. -/
abbrev sorted (v : Vec Ideal S2x16x4096x128 .f32) : Vec Ideal S2x16x4096x128 .f32 :=
  Host.sort S2x16x4096x128 2 (comparator_f32_d2 (F := Ideal)) v

/-- An entry of it is the column's entry at the place its order says. -/
theorem sorted_apply (v : Vec Ideal S2x16x4096x128 .f32) (j : S2x16x4096x128.Idx) :
    sorted v j = colOf v j (order (colOf v j) (j 2)).val := by
  have e : ∀ k : Fin 4096, colOf v j k.val = v (j.along 2 k) := fun k => dif_pos k.isLt
  unfold order
  simp only [e]
  rfl

/-- … and with the row counted from the end. -/
theorem sorted_rev_apply (v : Vec Ideal S2x16x4096x128 .f32) (j : S2x16x4096x128.Idx) :
    sorted v (j.along 2 (j 2).rev) = colOf v j (order (colOf v j) (Fin.rev (n := 4096) (j 2))).val := by
  have e : (j.along 2 (j 2).rev) 2 = Fin.rev (n := 4096) (j 2) := Function.update_self ..
  refine (sorted_apply v _).trans ?_
  refine (congrArg (fun z : Fin 4096 => colOf v (j.along 2 (j 2).rev) (order (colOf v (j.along 2 (j 2).rev)) z).val) e).trans ?_
  exact congrArg (fun x : ℕ → EReal => x (order x (Fin.rev (n := 4096) (j 2))).val) (colOf_along v j (Fin.rev (n := 4096) (j 2)))

/-- The index words as the reference's single column of words. -/
abbrev wordColumn (w : IVec S64 32) : IVec S64x1 32 := broadcastInDim S64x1 ![0] bcast_S64_S64x1_0 w

/-- The word a column of the gathered array takes. -/
def wordAt (k : S2x16x4096x64.Idx) : S64.Idx := fun | 0 => (k 3 : Fin 64)

/-- The word column at a row is the word. -/
theorem wordColumn_apply (w : IVec S64 32) (i : S64x1.Idx) (n : S64.Idx) (h : (i 0).val = (n 0).val) : wordColumn w i = w n :=
  broadcastInDim_apply _ _ _ _ n fun a => by
    match a with
    | 0 => exact h.symm

/-- Update `k` lands at `j` exactly when they agree on the first three coordinates and the word of `k`'s last names `j`'s last. -/
theorem ref_lands (w : IVec S64 32) (k : S2x16x4096x64.Idx) (j : S2x16x4096x128.Idx) :
    scatter_S2x16x4096x128_S64x1_S2x16x4096x64_012_3_3_1.resultIdx? k (wordColumn w) = some j ↔
      ((k 0).val = (j 0).val ∧ (k 1).val = (j 1).val ∧ (k 2).val = (j 2).val) ∧ (w (wordAt k)).toInt = ((j 3).val : ℤ) := by
  rw [Routing.resultIdx?_eq_some]
  have hs : ∀ a : Fin 4, a ≠ 3 → scatter_S2x16x4096x128_S64x1_S2x16x4096x64_012_3_3_1.start k (wordColumn w) a = 0 := fun a ha => by
    unfold ScatterDims.start
    rw [dif_neg (by revert a; decide)]
  have hs3 : scatter_S2x16x4096x128_S64x1_S2x16x4096x64_012_3_3_1.start k (wordColumn w) 3 = (w (wordAt k)).toInt := by
    unfold ScatterDims.start
    rw [dif_pos (by decide)]
    exact congrArg BitVec.toInt (wordColumn_apply w _ _ rfl)
  have hw0 : scatter_S2x16x4096x128_S64x1_S2x16x4096x64_012_3_3_1.window k 0 = (k 0).val := rfl
  have hw1 : scatter_S2x16x4096x128_S64x1_S2x16x4096x64_012_3_3_1.window k 1 = (k 1).val := rfl
  have hw2 : scatter_S2x16x4096x128_S64x1_S2x16x4096x64_012_3_3_1.window k 2 = (k 2).val := rfl
  have hw3 : scatter_S2x16x4096x128_S64x1_S2x16x4096x64_012_3_3_1.window k 3 = 0 := rfl
  constructor
  · intro h
    have e0 := h 0
    have e1 := h 1
    have e2 := h 2
    have e3 := h 3
    rw [hs 0 (by decide), hw0, zero_add] at e0
    rw [hs 1 (by decide), hw1, zero_add] at e1
    rw [hs 2 (by decide), hw2, zero_add] at e2
    rw [hs3, hw3] at e3
    exact ⟨⟨by exact_mod_cast e0, by exact_mod_cast e1, by exact_mod_cast e2⟩, by simpa using e3⟩
  · rintro ⟨⟨e0, e1, e2⟩, e3⟩ a
    match a with
    | 0 => rw [hs 0 (by decide), hw0, e0, zero_add]
    | 1 => rw [hs 1 (by decide), hw1, e1, zero_add]
    | 2 => rw [hs 2 (by decide), hw2, e2, zero_add]
    | 3 => rw [hs3, hw3, e3]; exact add_zero _

/-- The gathered, reversed columns at an update that lands at `j`: the array at `j` with its row counted from the end. -/
theorem gathered_apply (x : Vec Ideal S2x16x4096x128 .f32) (w : IVec S64 32) (k : S2x16x4096x64.Idx) (j : S2x16x4096x128.Idx)
    (h : ((k 0).val = (j 0).val ∧ (k 1).val = (j 1).val ∧ (k 2).val = (j 2).val) ∧ (w (wordAt k)).toInt = ((j 3).val : ℤ)) :
    Host.reverse [2] (Host.gather gather_S2x16x4096x128_S64x1_S2x16x4096x64_012_3_n_n_3_1_21640961 x (wordColumn w)) k
      = x (j.along 2 (j 2).rev) := by
  obtain ⟨⟨e0, e1, e2⟩, e3⟩ := h
  have h3 : (j 3).val < 128 := (j 3).isLt
  unfold Host.reverse Host.gather
  refine congrArg x (funext fun a => Fin.ext ?_)
  match a with
  | 0 => exact (zero_add _).trans e0
  | 1 => exact (zero_add _).trans e1
  | 2 =>
    have e : (k 2).rev.val = (j 2).rev.val := by rw [Fin.val_rev, Fin.val_rev, e2]; rfl
    exact (zero_add _).trans e
  | 3 =>
    have e : min (w (wordAt k)).toInt.toNat 127 = (j 3).val := by rw [e3]; omega
    refine Eq.trans ?_ e
    refine (add_zero _).trans ((add_zero _).trans ?_)
    unfold GatherDims.start
    rw [dif_pos (by decide)]
    exact congrArg (fun z : BitVec 32 => min z.toInt.toNat 127) (wordColumn_apply w _ _ rfl)

/-- The reference's result, at every index. -/
theorem reference_apply (v : Vec Ideal S2x16x4096x128 .f32) (w : IVec S64 32) :
    Host.scatter scatter_S2x16x4096x128_S64x1_S2x16x4096x64_012_3_3_1 (fun _ b => b) (sorted v) (wordColumn w)
      (Host.reverse [2] (Host.gather gather_S2x16x4096x128_S64x1_S2x16x4096x64_012_3_n_n_3_1_21640961 (sorted v) (wordColumn w)))
      = expected v w := funext fun j => by
  have h := scatter_overwrite scatter_S2x16x4096x128_S64x1_S2x16x4096x64_012_3_3_1 (sorted v) (wordColumn w)
    (Host.reverse [2] (Host.gather gather_S2x16x4096x128_S64x1_S2x16x4096x64_012_3_n_n_3_1_21640961 (sorted v) (wordColumn w))) j
    (sorted v (j.along 2 (j 2).rev)) fun k hk => gathered_apply (sorted v) w k j ((ref_lands w k j).1 hk)
  unfold expected signOf
  by_cases hn : Named w (j 3).val
  · obtain ⟨n, hw⟩ := hn
    rw [if_pos ⟨n, hw⟩, h.1 ⟨fun | 0 => (j 0 : Fin 2) | 1 => (j 1 : Fin 16) | 2 => (j 2 : Fin 4096) | 3 => (n 0 : Fin 64), ?_⟩]
    · refine (sorted_rev_apply v j).trans ?_
      exact order_rev_eq_lev (colOf v j) (j 2)
    · refine (ref_lands w _ j).2 ⟨⟨rfl, rfl, rfl⟩, ?_⟩
      rw [← hw]
      refine congrArg (fun z => (w z).toInt) (funext fun a => ?_)
      match a with
      | 0 => rfl
  · rw [if_neg hn, h.2 fun ⟨k, hk⟩ => hn ⟨_, ((ref_lands w k j).1 hk).2⟩, sorted_apply]
    simp only [mul_one]
    exact order_eq_lev (colOf v j) (j 2)

end Cert.Sorting

end
-- ==== Proof.Result.lean ====
module

public import proofs.«01_k».proof.Proof.Reference

/-!
# The kernel's result

Each grid point writes back its block of one array: at every index the network's last level of the signed column, signed again. The
blocks cover the array, so the array ends holding it.
-/

@[expose] public section

set_option maxRecDepth 16384

noncomputable section

namespace Cert.Sorting

open Cert.KernelIdeal Cert.KernelIdeal.Gen
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the result array ends holding. -/
def result (c : Dev nD) : Vec Ideal S2x16x4096x128 .f32 :=
  expected (m ((c.tc : Thread nD τ).loc main_arg2)) (wrapped (m ((c.tc : Thread nD τ).loc main_arg3)))

/-- A block is a whole slab of the array: it starts at row zero and lane zero, of one leading index each. -/
theorem slab (t : Fin cfg0.N) : win0_2.index t 2 = 0 ∧ win0_2.index t 3 = 0 := by
  revert t; decide +kernel

/-- The mask's block is the mask, at every point. -/
theorem mask_slab (t : Fin cfg0.N) : win0_1.index t 0 = 0 ∧ win0_1.index t 1 = 0 := by
  revert t; decide +kernel

/-- Where an index of a block lies in the array. -/
def place (t : Fin cfg0.N) (j : S1x1x4096x128.Idx) : S2x16x4096x128.Idx := (win0_2.blk t).view.emb j

/-- Its coordinates: the block's start and the index's own. -/
theorem place_val (t : Fin cfg0.N) (j : S1x1x4096x128.Idx) (a : Fin 4) :
    (place t j a).val = win0_2.index t a * S1x1x4096x128.size a + (j a).val := by
  show win0_2.index t a * S1x1x4096x128.size a + 1 * (j a).val = _
  rw [Nat.one_mul]

theorem place_row (t : Fin cfg0.N) (j : S1x1x4096x128.Idx) : (place t j 2).val = (j 2).val := by
  rw [place_val, (slab t).1, Nat.zero_mul, Nat.zero_add]

theorem place_lane (t : Fin cfg0.N) (j : S1x1x4096x128.Idx) : (place t j 3).val = (j 3).val := by
  rw [place_val, (slab t).2, Nat.zero_mul, Nat.zero_add]

/-- The operand's block at an index. -/
theorem operand_apply (c : Dev nD) (t : Fin cfg0.N) (j : S1x1x4096x128.Idx) :
    iblk m c 0 t j = m ((c.tc : Thread nD τ).loc main_arg2) (place t j) := by
  show V m c main_arg2 (place t j) = _
  rw [V_main_arg2]

/-- The mask's block. -/
theorem mask_apply (c : Dev nD) (t : Fin cfg0.N) : iblk m c 1 t = maskOf (wrapped (m ((c.tc : Thread nD τ).loc main_arg3))) := by
  rw [← V_mask]
  refine funext fun k => congrArg (V m c main_call0_v12) (funext fun a => Fin.ext ?_)
  show win0_1.index t a * S8x128.size a + 1 * (k a).val = (k a).val
  match a with
  | 0 => rw [(mask_slab t).1, Nat.zero_mul, Nat.zero_add, Nat.one_mul]
  | 1 => rw [(mask_slab t).2, Nat.zero_mul, Nat.zero_add, Nat.one_mul]

/-- The columns of the operand's block are columns of the operand. -/
theorem columns_operand (c : Dev nD) (t : Fin cfg0.N) (j : S1x1x4096x128.Idx) :
    columns (iblk m c 0 t) (j 3).val = colOf (m ((c.tc : Thread nD τ).loc main_arg2)) (place t j) := funext fun r => by
  have hd : (j 3).val < 128 := (j 3).isLt
  have h0 : (j 0).val < 1 := (j 0).isLt
  have h1 : (j 1).val < 1 := (j 1).isLt
  unfold columns colOf
  by_cases hr : r < 4096
  · rw [dif_pos ⟨hr, hd⟩, dif_pos hr, operand_apply]
    refine congrArg _ (funext fun a => Fin.ext ?_)
    rw [place_val]
    unfold Shape.Idx.along
    match a with
    | 0 => rw [Function.update_of_ne (by decide), place_val]; show _ + 0 = _; omega
    | 1 => rw [Function.update_of_ne (by decide), place_val]; show _ + 0 = _; omega
    | 2 => rw [Function.update_self, (slab t).1]; exact (congrArg (· + r) (Nat.zero_mul _)).trans (Nat.zero_add r)
    | 3 => rw [Function.update_of_ne (by decide), place_val]
  · rw [dif_neg fun h => hr h.1, dif_neg hr]

/-- The sign of a lane under the mask the launch finds. -/
theorem sgn_eq_signOf (w : IVec S64 32) (d : ℕ) (hd : d < 128) : sgn (maskOf w) d = signOf w d := by
  unfold signOf
  split
  · next h => exact (sgn_maskOf w d hd).1 h
  · next h => exact (sgn_maskOf w d hd).2 h

/-- What a point writes back is its block of the result. -/
theorem written_back (c : Dev nD) (t : Fin cfg0.N) :
    (dats m 0 c).flushed 2 t = (win0_2.blk t).view.read (Elt Ideal) (result m c) := by
  show (cfg0.win 2).cut (grid0.coords t) ((dats m 0 c).after 2 t) = _
  rw [after_two]
  refine funext fun j => ?_
  show pointValue (iblk m c 0 t) (iblk m c 1 t) j = result m c (place t j)
  unfold pointValue result expected
  rw [columns_operand, mask_apply, sgn_eq_signOf _ _ (j 3).isLt, place_row, place_lane]

/-- The point whose block an index lies in. -/
theorem covered (i : S2x16x4096x128.Idx) : ∃ t : Fin cfg0.N, (cfg0.win 2).flush t = true ∧ i ∈ ((cfg0.win 2).blk t).view.set := by
  have h0 : (i 0).val < 2 := (i 0).isLt
  have h1 : (i 1).val < 16 := (i 1).isLt
  have hp : ∀ (a : Fin 2) (b : Fin 16), ∃ t : Fin cfg0.N, win0_2.index t 0 = a.val ∧ win0_2.index t 1 = b.val := by decide +kernel
  obtain ⟨t, e0, e1⟩ := hp ⟨_, h0⟩ ⟨_, h1⟩
  refine ⟨t, flush0_2 t, ?_⟩
  have hj : place t (fun | 0 => (⟨0, Nat.one_pos⟩ : Fin 1) | 1 => (⟨0, Nat.one_pos⟩ : Fin 1) | 2 => (i 2 : Fin 4096) | 3 => (i 3 : Fin 128)) = i :=
    funext fun a => Fin.ext (by
      rw [place_val]
      match a with
      | 0 => rw [e0]; exact Nat.mul_one _
      | 1 => rw [e1]; exact Nat.mul_one _
      | 2 => rw [(slab t).1, Nat.zero_mul, Nat.zero_add]
      | 3 => rw [(slab t).2, Nat.zero_mul, Nat.zero_add])
  rw [← hj]
  exact View.emb_mem_set _ _

/-- The result array at the end. -/
theorem final_result (c : Dev nD) : (dats m 0 c).arrAt 2 cfg0.N = result m c :=
  (dats m 0 c).arrAt_eq_of_cover 2 (result m c) (fun t _ => written_back m c t) covered

/-- The kernel's run: the result array holds the result, the arguments are unchanged. -/
theorem kernel_run : θ_run defs (onTc (τ := τ) (main (F := Ideal))) ⟨m, fun _ => 0, ρ⟩ fun r => ∀ c : Dev nD,
      r.2.mem ((c.tc : Thread nD τ).loc main_v0_0) = result m c
      ∧ r.2.mem ((c.tc : Thread nD τ).loc main_v0_0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1.1 c).1 2).trans (final_result m c), ((h.1.1 c).1 2).trans (final_result m c), h.2.1 c⟩)
    (θ_run_and (run_quiescent m ρ) (frame_ideal m ρ))

end Cert.Sorting

end
-- ==== Proof.lean ====
/- The proof of the five claims: each program ends with its arguments unchanged and its counters at zero, the ideal program is the
   kernel over the extended reals, and there the kernel and the reference return equal arrays. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.OriginalFrame
public import proofs.«01_k».proof.Proof.Result
public import Idealize.ShloMosaic.Lib.Quiescent

@[expose] public section

noncomputable section

namespace Cert.Proof

open Idealize.ShloMosaic Idealize.ShloMosaic.TcCoe Idealize.SL.Sem

/-- The reference ends with its arguments unchanged and its counters at zero. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- From equal arguments the kernel and the reference end with equal results. -/
theorem equal_results : Cert.algebraic_KernelIdeal_ReferenceIdeal := by
  intro m ρ m' ρ' _ hargs
  refine ⟨fun c => Cert.Sorting.result m c, fun c => Cert.Sorting.result m c, Cert.Sorting.kernel_run m ρ, ?_⟩
  refine (θ_run Cert.ReferenceIdeal.defs _ _).mono (fun r h c => ?_) (Cert.ReferenceIdeal.Value.run (F := Ideal) m' ρ')
  have e : Cert.Sorting.result m c
      = Cert.Sorting.expected (m' ((c.tc : Thread Cert.ReferenceIdeal.nD Cert.ReferenceIdeal.τ).loc Cert.ReferenceIdeal.main_arg2))
        (Cert.Sorting.wrapped (m' ((c.tc : Thread Cert.ReferenceIdeal.nD Cert.ReferenceIdeal.τ).loc Cert.ReferenceIdeal.main_arg3))) := by
    rw [(hargs c).2.2.1, (hargs c).2.2.2]
    rfl
  have hv := (h c).1.trans ((Cert.Sorting.reference_apply _ _).trans e.symm)
  exact ⟨hv, hv, (h c).2.2⟩

theorem claim : Cert.Claim :=
  ⟨Cert.Kernel.Gen.facts, Cert.KernelIdeal.Gen.facts, Cert.ReferenceIdeal.Gen.facts, fun m ρ _ => Cert.Sorting.Original.frame_original m ρ,
    fun m ρ _ => Cert.Sorting.frame_ideal m ρ, frame_reference, trivial, equal_results⟩

end Cert.Proof

end
